-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![32, 128, 256]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v46) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x32 : Shape := ⟨2, ![128, 32]⟩
abbrev S256x1 : Shape := ⟨2, ![256, 1]⟩
abbrev S2x128x256 : Shape := ⟨3, ![2, 128, 256]⟩
abbrev S128x256 : Shape := ⟨2, ![128, 256]⟩
abbrev S256x256 : Shape := ⟨2, ![256, 256]⟩
abbrev S4x8x32x256 : Shape := ⟨4, ![4, 8, 32, 256]⟩
abbrev S4x8 : Shape := ⟨2, ![4, 8]⟩
abbrev S_ : Shape := ⟨0, ![]⟩
abbrev S256x32 : Shape := ⟨2, ![256, 32]⟩
abbrev S256 : Shape := ⟨1, ![256]⟩
abbrev S1x128x256 : Shape := ⟨3, ![1, 128, 256]⟩
abbrev S32x128 : Shape := ⟨2, ![32, 128]⟩
abbrev S32x256 : Shape := ⟨2, ![32, 256]⟩
abbrev S32x1 : Shape := ⟨2, ![32, 1]⟩
abbrev S1x1x32x256 : Shape := ⟨4, ![1, 1, 32, 256]⟩
abbrev S1x1 : Shape := ⟨2, ![1, 1]⟩

abbrev nBuf : Space → Nat
  | .hbm => 6
  | .vmem => 9
  | .smem => 0
  | _ => 0

abbrev bufTy : (tb : Table) → Fin (tcTables nBuf tb) → BufTy
  | .hbm, ⟨0, _⟩ => ⟨S256x128, .bf16⟩
  | .hbm, ⟨1, _⟩ => ⟨S128x32, .bf16⟩
  | .hbm, ⟨2, _⟩ => ⟨S256x1, .i32⟩
  | .hbm, ⟨3, _⟩ => ⟨S2x128x256, .bf16⟩
  | .hbm, ⟨4, _⟩ => ⟨S128x256, .bf16⟩
  | .hbm, ⟨5, _⟩ => ⟨S256x256, .f32⟩
  | .local _ .vmem, ⟨0, _⟩ => ⟨S256x128, .bf16⟩
  | .local _ .vmem, ⟨1, _⟩ => ⟨S128x32, .bf16⟩
  | .local _ .vmem, ⟨2, _⟩ => ⟨S256x1, .i32⟩
  | .local _ .vmem, ⟨3, _⟩ => ⟨S2x128x256, .bf16⟩
  | .local _ .vmem, ⟨4, _⟩ => ⟨S128x256, .bf16⟩
  | .local _ .vmem, ⟨5, _⟩ => ⟨S256x256, .f32⟩
  | .local _ .vmem, ⟨6, _⟩ => ⟨S256x256, .f32⟩
  | .local _ .vmem, ⟨7, _⟩ => ⟨S4x8x32x256, .bf16⟩
  | .local _ .vmem, ⟨8, _⟩ => ⟨S4x8x32x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_40 : BitVec 32 := 1#32
  let v72 : BitVec 32 := Scalar.xori v2 c1_i32_40
  let c1_i32_49 : BitVec 32 := 1#32
  let v73 : BitVec 32 := Scalar.muli v72 c1_i32_49
  let v74 : BitVec 32 := Scalar.addi c0_i32_50 v73
  v74.toNat
def k0_dev6 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_62 : BitVec 32 := 1#32
  let v101 : BitVec 32 := Scalar.xori v2 c1_i32_62
  let c1_i32_71 : BitVec 32 := 1#32
  let v102 : BitVec 32 := Scalar.muli v101 c1_i32_71
  let v103 : BitVec 32 := Scalar.addi c0_i32_72 v102
  v103.toNat
def k0_dev7 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_83 : BitVec 32 := 1#32
  let v130 : BitVec 32 := Scalar.xori v2 c1_i32_83
  let c1_i32_92 : BitVec 32 := 1#32
  let v131 : BitVec 32 := Scalar.muli v130 c1_i32_92
  let v132 : BitVec 32 := Scalar.addi c0_i32_93 v131
  v132.toNat
def k0_dev8 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_104 : BitVec 32 := 1#32
  let v159 : BitVec 32 := Scalar.xori v2 c1_i32_104
  let c1_i32_112 : BitVec 32 := 1#32
  let v160 : BitVec 32 := Scalar.muli v159 c1_i32_112
  let v161 : BitVec 32 := Scalar.addi c0_i32_113 v160
  v161.toNat
def k0_dev9 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_124 : BitVec 32 := 1#32
  let v188 : BitVec 32 := Scalar.xori v2 c1_i32_124
  let c1_i32_133 : BitVec 32 := 1#32
  let v189 : BitVec 32 := Scalar.muli v188 c1_i32_133
  let v190 : BitVec 32 := Scalar.addi c0_i32_134 v189
  v190.toNat
def k0_dev10 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_145 : BitVec 32 := 1#32
  let v217 : BitVec 32 := Scalar.xori v2 c1_i32_145
  let c1_i32_153 : BitVec 32 := 1#32
  let v218 : BitVec 32 := Scalar.muli v217 c1_i32_153
  let v219 : BitVec 32 := Scalar.addi c0_i32_154 v218
  v219.toNat
def k0_dev11 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_165 : BitVec 32 := 1#32
  let v246 : BitVec 32 := Scalar.xori v2 c1_i32_165
  let c1_i32_173 : BitVec 32 := 1#32
  let v247 : BitVec 32 := Scalar.muli v246 c1_i32_173
  let v248 : BitVec 32 := Scalar.addi c0_i32_174 v247
  v248.toNat
def k0_dev12 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_185 : BitVec 32 := 1#32
  let v275 : BitVec 32 := Scalar.xori v2 c1_i32_185
  let c1_i32_193 : BitVec 32 := 1#32
  let v276 : BitVec 32 := Scalar.muli v275 c1_i32_193
  let v277 : BitVec 32 := Scalar.addi c0_i32_194 v276
  v277.toNat
def k0_dev13 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_230 : BitVec 32 := 2#32
  let v310 : BitVec 32 := Scalar.xori v2 c2_i32_230
  let c1_i32_239 : BitVec 32 := 1#32
  let v311 : BitVec 32 := Scalar.muli v310 c1_i32_239
  let v312 : BitVec 32 := Scalar.addi c0_i32_240 v311
  v312.toNat
def k0_dev14 (d0 : Dev nD) : Nat :=
  let c0_i32_281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_271 : BitVec 32 := 2#32
  let v341 : BitVec 32 := Scalar.xori v2 c2_i32_271
  let c1_i32_280 : BitVec 32 := 1#32
  let v342 : BitVec 32 := Scalar.muli v341 c1_i32_280
  let v343 : BitVec 32 := Scalar.addi c0_i32_281 v342
  v343.toNat
def k0_dev15 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_312 : BitVec 32 := 2#32
  let v372 : BitVec 32 := Scalar.xori v2 c2_i32_312
  let c1_i32_321 : BitVec 32 := 1#32
  let v373 : BitVec 32 := Scalar.muli v372 c1_i32_321
  let v374 : BitVec 32 := Scalar.addi c0_i32_322 v373
  v374.toNat
def k0_dev16 (d0 : Dev nD) : Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_353 : BitVec 32 := 2#32
  let v403 : BitVec 32 := Scalar.xori v2 c2_i32_353
  let c1_i32_362 : BitVec 32 := 1#32
  let v404 : BitVec 32 := Scalar.muli v403 c1_i32_362
  let v405 : BitVec 32 := Scalar.addi c0_i32_363 v404
  v405.toNat
def k0_dev17 (d0 : Dev nD) : Nat :=
  let c0_i32_404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_394 : BitVec 32 := 2#32
  let v434 : BitVec 32 := Scalar.xori v2 c2_i32_394
  let c1_i32_403 : BitVec 32 := 1#32
  let v435 : BitVec 32 := Scalar.muli v434 c1_i32_403
  let v436 : BitVec 32 := Scalar.addi c0_i32_404 v435
  v436.toNat
def k0_dev18 (d0 : Dev nD) : Nat :=
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v465 : BitVec 32 := Scalar.xori v2 c2_i32_435
  let c1_i32_444 : BitVec 32 := 1#32
  let v466 : BitVec 32 := Scalar.muli v465 c1_i32_444
  let v467 : BitVec 32 := Scalar.addi c0_i32_445 v466
  v467.toNat
def k0_dev19 (d0 : Dev nD) : Nat :=
  let c0_i32_486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_476 : BitVec 32 := 2#32
  let v496 : BitVec 32 := Scalar.xori v2 c2_i32_476
  let c1_i32_485 : BitVec 32 := 1#32
  let v497 : BitVec 32 := Scalar.muli v496 c1_i32_485
  let v498 : BitVec 32 := Scalar.addi c0_i32_486 v497
  v498.toNat
def k0_dev20 (d0 : Dev nD) : Nat :=
  let c0_i32_527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_517 : BitVec 32 := 2#32
  let v527 : BitVec 32 := Scalar.xori v2 c2_i32_517
  let c1_i32_526 : BitVec 32 := 1#32
  let v528 : BitVec 32 := Scalar.muli v527 c1_i32_526
  let v529 : BitVec 32 := Scalar.addi c0_i32_527 v528
  v529.toNat
def k0_dev21 (d0 : Dev nD) : Nat :=
  let c0_i32_568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_558 : BitVec 32 := 4#32
  let v558 : BitVec 32 := Scalar.xori v2 c4_i32_558
  let c1_i32_567 : BitVec 32 := 1#32
  let v559 : BitVec 32 := Scalar.muli v558 c1_i32_567
  let v560 : BitVec 32 := Scalar.addi c0_i32_568 v559
  v560.toNat
def k0_dev22 (d0 : Dev nD) : Nat :=
  let c0_i32_609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_599 : BitVec 32 := 4#32
  let v589 : BitVec 32 := Scalar.xori v2 c4_i32_599
  let c1_i32_608 : BitVec 32 := 1#32
  let v590 : BitVec 32 := Scalar.muli v589 c1_i32_608
  let v591 : BitVec 32 := Scalar.addi c0_i32_609 v590
  v591.toNat
def k0_dev23 (d0 : Dev nD) : Nat :=
  let c0_i32_650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_640 : BitVec 32 := 4#32
  let v620 : BitVec 32 := Scalar.xori v2 c4_i32_640
  let c1_i32_649 : BitVec 32 := 1#32
  let v621 : BitVec 32 := Scalar.muli v620 c1_i32_649
  let v622 : BitVec 32 := Scalar.addi c0_i32_650 v621
  v622.toNat
def k0_dev24 (d0 : Dev nD) : Nat :=
  let c0_i32_691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_681 : BitVec 32 := 4#32
  let v651 : BitVec 32 := Scalar.xori v2 c4_i32_681
  let c1_i32_690 : BitVec 32 := 1#32
  let v652 : BitVec 32 := Scalar.muli v651 c1_i32_690
  let v653 : BitVec 32 := Scalar.addi c0_i32_691 v652
  v653.toNat
def k0_dev25 (d0 : Dev nD) : Nat :=
  let c0_i32_732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_722 : BitVec 32 := 4#32
  let v682 : BitVec 32 := Scalar.xori v2 c4_i32_722
  let c1_i32_731 : BitVec 32 := 1#32
  let v683 : BitVec 32 := Scalar.muli v682 c1_i32_731
  let v684 : BitVec 32 := Scalar.addi c0_i32_732 v683
  v684.toNat
def k0_dev26 (d0 : Dev nD) : Nat :=
  let c0_i32_773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_763 : BitVec 32 := 4#32
  let v713 : BitVec 32 := Scalar.xori v2 c4_i32_763
  let c1_i32_772 : BitVec 32 := 1#32
  let v714 : BitVec 32 := Scalar.muli v713 c1_i32_772
  let v715 : BitVec 32 := Scalar.addi c0_i32_773 v714
  v715.toNat
def k0_dev27 (d0 : Dev nD) : Nat :=
  let c0_i32_814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_804 : BitVec 32 := 4#32
  let v744 : BitVec 32 := Scalar.xori v2 c4_i32_804
  let c1_i32_813 : BitVec 32 := 1#32
  let v745 : BitVec 32 := Scalar.muli v744 c1_i32_813
  let v746 : BitVec 32 := Scalar.addi c0_i32_814 v745
  v746.toNat
def k0_dev28 (d0 : Dev nD) : Nat :=
  let c0_i32_855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_845 : BitVec 32 := 4#32
  let v775 : BitVec 32 := Scalar.xori v2 c4_i32_845
  let c1_i32_854 : BitVec 32 := 1#32
  let v776 : BitVec 32 := Scalar.muli v775 c1_i32_854
  let v777 : BitVec 32 := Scalar.addi c0_i32_855 v776
  v777.toNat
def k0_dev29 (d0 : Dev nD) : Nat :=
  let c0_i32_896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_886 : BitVec 32 := 8#32
  let v806 : BitVec 32 := Scalar.xori v2 c8_i32_886
  let c1_i32_895 : BitVec 32 := 1#32
  let v807 : BitVec 32 := Scalar.muli v806 c1_i32_895
  let v808 : BitVec 32 := Scalar.addi c0_i32_896 v807
  v808.toNat
def k0_dev30 (d0 : Dev nD) : Nat :=
  let c0_i32_937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_927 : BitVec 32 := 8#32
  let v837 : BitVec 32 := Scalar.xori v2 c8_i32_927
  let c1_i32_936 : BitVec 32 := 1#32
  let v838 : BitVec 32 := Scalar.muli v837 c1_i32_936
  let v839 : BitVec 32 := Scalar.addi c0_i32_937 v838
  v839.toNat
def k0_dev31 (d0 : Dev nD) : Nat :=
  let c0_i32_978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_968 : BitVec 32 := 8#32
  let v868 : BitVec 32 := Scalar.xori v2 c8_i32_968
  let c1_i32_977 : BitVec 32 := 1#32
  let v869 : BitVec 32 := Scalar.muli v868 c1_i32_977
  let v870 : BitVec 32 := Scalar.addi c0_i32_978 v869
  v870.toNat
def k0_dev32 (d0 : Dev nD) : Nat :=
  let c0_i32_1019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1009 : BitVec 32 := 8#32
  let v899 : BitVec 32 := Scalar.xori v2 c8_i32_1009
  let c1_i32_1018 : BitVec 32 := 1#32
  let v900 : BitVec 32 := Scalar.muli v899 c1_i32_1018
  let v901 : BitVec 32 := Scalar.addi c0_i32_1019 v900
  v901.toNat
def k0_dev33 (d0 : Dev nD) : Nat :=
  let c0_i32_1060 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1050 : BitVec 32 := 8#32
  let v930 : BitVec 32 := Scalar.xori v2 c8_i32_1050
  let c1_i32_1059 : BitVec 32 := 1#32
  let v931 : BitVec 32 := Scalar.muli v930 c1_i32_1059
  let v932 : BitVec 32 := Scalar.addi c0_i32_1060 v931
  v932.toNat
def k0_dev34 (d0 : Dev nD) : Nat :=
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1091 : BitVec 32 := 8#32
  let v961 : BitVec 32 := Scalar.xori v2 c8_i32_1091
  let c1_i32_1100 : BitVec 32 := 1#32
  let v962 : BitVec 32 := Scalar.muli v961 c1_i32_1100
  let v963 : BitVec 32 := Scalar.addi c0_i32_1101 v962
  v963.toNat
def k0_dev35 (d0 : Dev nD) : Nat :=
  let c0_i32_1142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1132 : BitVec 32 := 8#32
  let v992 : BitVec 32 := Scalar.xori v2 c8_i32_1132
  let c1_i32_1141 : BitVec 32 := 1#32
  let v993 : BitVec 32 := Scalar.muli v992 c1_i32_1141
  let v994 : BitVec 32 := Scalar.addi c0_i32_1142 v993
  v994.toNat
def k0_dev36 (d0 : Dev nD) : Nat :=
  let c0_i32_1183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1173 : BitVec 32 := 8#32
  let v1023 : BitVec 32 := Scalar.xori v2 c8_i32_1173
  let c1_i32_1182 : BitVec 32 := 1#32
  let v1024 : BitVec 32 := Scalar.muli v1023 c1_i32_1182
  let v1025 : BitVec 32 := Scalar.addi c0_i32_1183 v1024
  v1025.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S256x128 : Shape := ⟨2, ![256, 128]⟩
abbrev S128x32 : Shape := ⟨2, ![128, 32]⟩
abbrev S256x1 : Shape := ⟨2, ![256, 1]⟩
abbrev S32x128x256 : Shape := ⟨3, ![32, 128, 256]⟩
abbrev S128x256 : Shape := ⟨2, ![128, 256]⟩
abbrev S256x32 : Shape := ⟨2, ![256, 32]⟩
abbrev S_ : Shape := ⟨0, ![]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x2 : Shape := ⟨2, ![1, 2]⟩
abbrev S1 : Shape := ⟨1, ![1]⟩
abbrev S1x1 : Shape := ⟨2, ![1, 1]⟩
abbrev S256x128x256 : Shape := ⟨3, ![256, 128, 256]⟩

abbrev nBuf : Space → Nat
  | .hbm => 62
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x32, .bf16⟩
  | .hbm, ⟨2, _⟩ => ⟨S256x1, .i32⟩
  | .hbm, ⟨3, _⟩ => ⟨S32x128x256, .bf16⟩
  | .hbm, ⟨4, _⟩ => ⟨S128x256, .bf16⟩
  | .hbm, ⟨5, _⟩ => ⟨S256x128, .f32⟩
  | .hbm, ⟨6, _⟩ => ⟨S128x32, .f32⟩
  | .hbm, ⟨7, _⟩ => ⟨S32x128x256, .f32⟩
  | .hbm, ⟨8, _⟩ => ⟨S128x256, .f32⟩
  | .hbm, ⟨9, _⟩ => ⟨S256x32, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S256x32, .f32⟩
  | .hbm, ⟨14, _⟩ => ⟨S256x32, .f32⟩
  | .hbm, ⟨15, _⟩ => ⟨S256x32, .f32⟩
  | .hbm, ⟨16, _⟩ => ⟨S_, .f32⟩
  | .hbm, ⟨17, _⟩ => ⟨S256, .f32⟩
  | .hbm, ⟨18, _⟩ => ⟨S256x1, .f32⟩
  | .hbm, ⟨19, _⟩ => ⟨S256x32, .f32⟩
  | .hbm, ⟨20, _⟩ => ⟨S256x32, .f32⟩
  | .hbm, ⟨21, _⟩ => ⟨S256x256, .f32⟩
  | .hbm, ⟨22, _⟩ => ⟨S256, .i32⟩
  | .hbm, ⟨23, _⟩ => ⟨S256, .i32⟩
  | .hbm, ⟨24, _⟩ => ⟨S256x1, .i32⟩
  | .hbm, ⟨25, _⟩ => ⟨S256x1, .i32⟩
  | .hbm, ⟨26, _⟩ => ⟨S256x2, .i32⟩
  | .hbm, ⟨27, _⟩ => ⟨S2, .i32⟩
  | .hbm, ⟨28, _⟩ => ⟨S_, .i32⟩
  | .hbm, ⟨29, _⟩ => ⟨S256x2, .i32⟩
  | .hbm, ⟨30, _⟩ => ⟨S256x2, .i1⟩
  | .hbm, ⟨31, _⟩ => ⟨S1x2, .i32⟩
  | .hbm, ⟨32, _⟩ => ⟨S256x2, .i32⟩
  | .hbm, ⟨33, _⟩ => ⟨S256x2, .i1⟩
  | .hbm, ⟨34, _⟩ => ⟨S256x2, .i1⟩
  | .hbm, ⟨35, _⟩ => ⟨S_, .i1⟩
  | .hbm, ⟨36, _⟩ => ⟨S256, .i1⟩
  | .hbm, ⟨37, _⟩ => ⟨S256, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S256x1, .i32⟩
  | .hbm, ⟨42, _⟩ => ⟨S1, .i32⟩
  | .hbm, ⟨43, _⟩ => ⟨S_, .i32⟩
  | .hbm, ⟨44, _⟩ => ⟨S256x1, .i32⟩
  | .hbm, ⟨45, _⟩ => ⟨S256x1, .i1⟩
  | .hbm, ⟨46, _⟩ => ⟨S1x1, .i32⟩
  | .hbm, ⟨47, _⟩ => ⟨S256x1, .i32⟩
  | .hbm, ⟨48, _⟩ => ⟨S256x1, .i1⟩
  | .hbm, ⟨49, _⟩ => ⟨S256x1, .i1⟩
  | .hbm, ⟨50, _⟩ => ⟨S_, .i1⟩
  | .hbm, ⟨51, _⟩ => ⟨S256, .i1⟩
  | .hbm, ⟨52, _⟩ => ⟨S256x128x256, .f32⟩
  | .hbm, ⟨53, _⟩ => ⟨S256x128x256, .i1⟩
  | .hbm, ⟨54, _⟩ => ⟨S_, .f32⟩
  | .hbm, ⟨55, _⟩ => ⟨S256x128x256, .f32⟩
  | .hbm, ⟨56, _⟩ => ⟨S256x128x256, .f32⟩
  | .hbm, ⟨57, _⟩ => ⟨S256x1, .f32⟩
  | .hbm, ⟨58, _⟩ => ⟨S256x256, .f32⟩
  | .hbm, ⟨59, _⟩ => ⟨S256x256, .f32⟩
  | .hbm, ⟨60, _⟩ => ⟨S256x256, .f32⟩
  | .hbm, ⟨61, _⟩ => ⟨S256x256, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Proof.Program.lean ====
/-
# The kernel's body as loops

The printed body unrolls every loop: 32 transfers, 32 receives, 32 waits for the sends. This module writes the same
body once as loops over the exchange step `k` (4 of them, partner at distance `2^k`) and the row block `h` (8 blocks
of 32 rows), and proves the two programs equal. Every later argument is about one step at symbolic `(k, h)`.
-/
module

public import proofs.«01_k».proof.Proof.Gen.KernelIdeal
public import proofs.«01_k».proof.Proof.Gen.KernelIdeal.Launch
public import proofs.«01_k».proof.Proof.Gen.KernelIdeal.Points

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.Sem

variable {F : FTy → Type} [FloatOps F]

/-! ## Loops -/

/-- Run `f 0`, `f 1`, …, `f (n - 1)` in order. -/
def seqF {E : Type → Type} : (n : Nat) → (Fin n → Prog E PUnit) → Prog E PUnit
  | 0, _ => .ret ⟨⟩
  | n + 1, f => f 0 >>= fun _ => seqF n fun i => f i.succ

/-- The effects of this kernel's body. -/
abbrev Eff (F : FTy → Type) : Type → Type := TpuEff nD τ sig (Elt F) Λ₀ .tc

/-! ## The rectangles the body touches -/

/-- Block `h`: rows `32 h … 32 h + 31` of a 256-row array. -/
theorem inbA (h : Fin 8) : ∀ a, (![32 * h.val, 0] : Fin 2 → Nat) a + S32x256.size a ≤ S256x256.size a := by
  revert h; decide
/-- Slot `(k, h)` of a 4 × 8 array of blocks. -/
theorem inbS (k : Fin 4) (h : Fin 8) :
    ∀ a, (![k.val, h.val, 0, 0] : Fin 4 → Nat) a + S1x1x32x256.size a ≤ S4x8x32x256.size a := by
  revert k h; decide
/-- Semaphore `(k, h)` of a 4 × 8 array of semaphores. -/
theorem inbD (k : Fin 4) (h : Fin 8) : ∀ a, (![k.val, h.val] : Fin 2 → Nat) a + S1x1.size a ≤ S4x8.size a := by
  revert k h; decide
theorem slicesX (h : Fin 8) : S256x128.Slices ![32 * h.val, 0] S32x128 := by revert h; decide
theorem slicesC (h : Fin 8) : S256x1.Slices ![32 * h.val, 0] S32x1 := by revert h; decide

/-- The rows of block `h`. -/
abbrev rA (h : Fin 8) : Rect S256x256 := Rect.unit (s := S256x256) ![32 * h.val, 0] S32x256.size (inbA h)
/-- The slot `(k, h)`. -/
abbrev rS (k : Fin 4) (h : Fin 8) : Rect S4x8x32x256 :=
  Rect.unit (s := S4x8x32x256) ![k.val, h.val, 0, 0] S1x1x32x256.size (inbS k h)
theorem packedS (k : Fin 4) (h : Fin 8) : (rS k h).PackedRows (EltTy.packing .bf16) := by revert k h; decide
theorem wordsS (k : Fin 4) (h : Fin 8) : (rS k h).WholeWords (EltTy.packing .bf16) := by revert k h; decide

/-- The whole operands, and the two experts' weights in the device's block. -/
abbrev rX : Rect S256x128 := Rect.unit (s := S256x128) ![0, 0] S256x128.size inb_S256x128_S256x128_0_0
abbrev rR : Rect S128x32 := Rect.unit (s := S128x32) ![0, 0] S128x32.size inb_S128x32_S128x32_0_0
abbrev rI : Rect S256x1 := Rect.unit (s := S256x1) ![0, 0] S256x1.size inb_S256x1_S256x1_0_0
abbrev rW0 : Rect S2x128x256 := Rect.unit (s := S2x128x256) ![0, 0, 0] S1x128x256.size inb_S2x128x256_S1x128x256_0_0_0
abbrev rW1 : Rect S2x128x256 := Rect.unit (s := S2x128x256) ![1, 0, 0] S1x128x256.size inb_S2x128x256_S1x128x256_1_0_0
abbrev rU : Rect S128x256 := Rect.unit (s := S128x256) ![0, 0] S128x256.size inb_S128x256_S128x256_0_0

/-! ## The buffers -/

abbrev bX : Memref sig .tc .vmem S256x128 .bf16 := Memref.whole cc0_stg0_0
abbrev bR : Memref sig .tc .vmem S128x32 .bf16 := Memref.whole cc0_stg1_0
abbrev bI : Memref sig .tc .vmem S256x1 .i32 := Memref.whole cc0_stg2_0
abbrev bW : Memref sig .tc .vmem S2x128x256 .bf16 := Memref.whole cc0_stg3_0
abbrev bU : Memref sig .tc .vmem S128x256 .bf16 := Memref.whole cc0_stg4_0
abbrev bO : Memref sig .tc .vmem S256x256 .f32 := Memref.whole cc0_stg5_0
abbrev bA : Memref sig .tc .vmem S256x256 .f32 := Memref.whole cc0_scratch0
abbrev bS : Memref sig .tc .vmem S4x8x32x256 .bf16 := Memref.whole cc0_scratch1
abbrev bC : Memref sig .tc .vmem S4x8x32x256 .bf16 := Memref.whole cc0_scratch2
theorem wS : bS.IsWhole := Memref.isWhole_whole _
theorem wC : bC.IsWhole := Memref.isWhole_whole _

/-- Slot `(k, h)` of the send buffer, as a transfer sees it. -/
abbrev sendV (k : Fin 4) (h : Fin 8) : Memref sig .tc .vmem S32x256 .bf16 :=
  (bS.slice (rS k h) (fun _ => rfl)).squeeze S32x256 squeezes_S1x1x32x256_S32x256
/-- Slot `(k, h)` of the landing buffer, as a transfer sees it. -/
abbrev commV (k : Fin 4) (h : Fin 8) : Memref sig .tc .vmem S32x256 .bf16 :=
  (bC.slice (rS k h) (fun _ => rfl)).squeeze S32x256 squeezes_S1x1x32x256_S32x256
theorem sendW (k : Fin 4) (h : Fin 8) : (sendV k h).view.WordExact := (wS.wordExact_slice rfl _ (wordsS k h)).reshape _ _
theorem commW (k : Fin 4) (h : Fin 8) : (commV k h).view.WordExact := (wC.wordExact_slice rfl _ (wordsS k h)).reshape _ _

/-- The semaphore a send `(k, h)` raises on its own device. -/
abbrev sendSem (k : Fin 4) (h : Fin 8) : DmaSem sig :=
  ((cc0_scratch3.slice (Rect.unit (s := S4x8) ![k.val, h.val] S1x1.size (inbD k h))).squeeze S_ squeezes_S1x1_S_).sem
/-- The semaphore a send `(k, h)` raises on the partner. -/
abbrev recvSem (k : Fin 4) (h : Fin 8) : DmaSem sig :=
  ((cc0_scratch4.slice (Rect.unit (s := S4x8) ![k.val, h.val] S1x1.size (inbD k h))).squeeze S_ squeezes_S1x1_S_).sem
/-- The barrier semaphore. -/
abbrev barSem : Sem sig := (SemArray.scalar (sig.barrier 0 rfl) : Sems sig S_).sem

/-! ## The partner -/

/-- The bit exchange step `k` flips in a device's number. -/
abbrev mask (k : Fin 4) : BitVec 32 := (![1#32, 2#32, 4#32, 8#32] : Fin 4 → BitVec 32) k
/-- The device's number as the kernel computes it. -/
abbrev word (d : Dev nD) : BitVec 32 := Scalar.remsi (Scalar.divsi (Dev.word d) 1#32) 16#32
/-- The partner's number as the kernel computes it. -/
def peerN (k : Fin 4) (d : Dev nD) : Nat :=
  (Scalar.addi 0#32 (Scalar.muli (Scalar.xori (word d) (mask k)) 1#32)).toNat
theorem peerN_lt (k : Fin 4) (d : Dev nD) : peerN k d < nD := by revert k d; decide +kernel
/-- The partner of device `d` in exchange step `k`. -/
abbrev peer (k : Fin 4) (d : Dev nD) : Dev nD := ⟨peerN k d, peerN_lt k d⟩

/-! ## The values the body computes -/

/-- The router's scores through the softmax. -/
def probsV (xb : Vec F S256x128 .bf16) (rw : Vec F S128x32 .bf16) : FVec F S256x32 .f32 :=
  let sc : FVec F S256x32 .f32 := matmul dot_S256x128_S128x32_S256x32_1_0_0_1_n_n none
    (shapeCast S256x128 xb shapeCasts_S256x128_S256x128) (shapeCast S128x32 rw shapeCasts_S128x32_S128x32)
    (constant S256x32 .f32 0x00000000#32)
  let ex : FVec F S256x32 .f32 := exp (subf sc (broadcastTo S256x32
    (shapeCast S256x1 (multiReduction .maximumf [1] S256 sc 0xFF800000#32 reduces_S256x32_S256 (.inl rfl) rfl)
      shapeCasts_S256_S256x1) broadcasts_S256x1_S256x32))
  divf ex (broadcastTo S256x32
    (shapeCast S256x1 (multiReduction .add [1] S256 ex 0x00000000#32 reduces_S256x32_S256 (.inl rfl) rfl)
      shapeCasts_S256_S256x1) broadcasts_S256x1_S256x32)

/-- Each token's probability of the expert it is routed to. -/
def tokV (pr : FVec F S256x32 .f32) (ix : Vec F S256x1 .i32) : FVec F S256x1 .f32 :=
  shapeCast S256x1 (multiReduction .add [1] S256
    (select (cmpi .eq (broadcastTo S256x32 (shapeCast S256x1 ix shapeCasts_S256x1_S256x1 : IVec S256x1 32)
        broadcasts_S256x1_S256x32) (iota .tc S256x32 32 [1] iota_S256x32_d1_w32))
      pr (broadcast S256x32 (Scalar.ofBits .f32 0x00000000#32))) 0x00000000#32 reduces_S256x32_S256 (.inl rfl) rfl)
    shapeCasts_S256_S256x1

/-- The weight of expert number `e` for each token: its probability if the token is routed there, zero otherwise. -/
def coefV (tok : FVec F S256x1 .f32) (ix : Vec F S256x1 .i32) (e : BitVec 32) : FVec F S256x1 .f32 :=
  select (cmpi .eq (shapeCast S256x1 ix shapeCasts_S256x1_S256x1 : IVec S256x1 32) (broadcast S256x1 e)) tok
    (broadcast S256x1 (Scalar.ofBits .f32 0x00000000#32))

/-- One expert's contribution to the rows of block `h`. -/
def contribV (xb : Vec F S256x128 .bf16) (w : Vec F S1x128x256 .bf16) (cf : FVec F S256x1 .f32) (h : Fin 8) :
    FVec F S32x256 .f32 :=
  mulf (broadcastTo S32x256 (extractStridedSlice S32x1 ![32 * h.val, 0] cf (slicesC h)) broadcasts_S32x1_S32x256)
    (matmul dot_S32x128_S128x256_S32x256_1_0_0_1_n_n none
      (extractStridedSlice S32x128 ![32 * h.val, 0]
        (shapeCast S256x128 xb shapeCasts_S256x128_S256x128 : FVec F S256x128 .bf16) (slicesX h))
      (shapeCast S128x256 w shapeCasts_S1x128x256_S128x256) (constant S32x256 .f32 0x00000000#32))

/-- What the device reads before it starts. -/
structure Ins (F : FTy → Type) where
  xb : Vec F S256x128 .bf16
  rw : Vec F S128x32 .bf16
  ix : Vec F S256x1 .i32
  w0 : Vec F S1x128x256 .bf16
  w1 : Vec F S1x128x256 .bf16

/-- The device's own partial result, rows of block `h`: its two experts' contributions. -/
def partV (d : Dev nD) (i : Ins F) (h : Fin 8) : FVec F S32x256 .f32 :=
  addf (contribV i.xb i.w0 (coefV (tokV (probsV i.xb i.rw) i.ix) i.ix (Scalar.muli (word d) 2#32)) h)
    (contribV i.xb i.w1 (coefV (tokV (probsV i.xb i.rw) i.ix) i.ix
      (Scalar.addi (Scalar.muli (word d) 2#32) 1#32)) h)

/-- A block rounded for sending. -/
def packV (v : FVec F S32x256 .f32) : FVec F S1x1x32x256 .bf16 :=
  shapeCast S1x1x32x256 (truncf .bf16 v bitsLt_bf16_f32 : FVec F S32x256 .bf16) shapeCasts_S32x256_S1x1x32x256
/-- A running block plus a received one. -/
def mergeV (a : Vec F S32x256 .f32) (b : Vec F S1x1x32x256 .bf16) : FVec F S32x256 .f32 :=
  addf a (extf .f32 (shapeCast S32x256 b shapeCasts_S1x1x32x256_S32x256 : FVec F S32x256 .bf16) bitsLt_bf16_f32)
/-- A block as it is stored. -/
def storeV (v : FVec F S32x256 .f32) : FVec F S32x256 .f32 := shapeCast S32x256 v shapeCasts_S32x256_S32x256
/-- The shared expert's result. -/
def sharedV (xb : Vec F S256x128 .bf16) (u : Vec F S128x256 .bf16) : FVec F S256x256 .f32 :=
  matmul dot_S256x128_S128x256_S256x256_1_0_0_1_n_n none (shapeCast S256x128 xb shapeCasts_S256x128_S256x128)
    (shapeCast S128x256 u shapeCasts_S128x256_S128x256) (constant S256x256 .f32 0x00000000#32)
/-- The result: shared plus routed. -/
def outV (o a : Vec F S256x256 .f32) : FVec F S256x256 .f32 :=
  addf (shapeCast S256x256 o shapeCasts_S256x256_S256x256) a

/-! ## The steps -/

def loadA (h : Fin 8) : Prog (Eff F) (Vec F S32x256 .f32) :=
  Prog.lift (.load bA (rA h).toLoadRect (View.loadsAt_vmem h_S32x256))
def storeA (h : Fin 8) (v : FVec F S32x256 .f32) : Prog (Eff F) PUnit :=
  Prog.lift (.store bA (rA h) v Finset.univ (View.stores_vmem_bits_univ h_S32x256 rfl) (.inl rfl))
def loadS (k : Fin 4) (h : Fin 8) : Prog (Eff F) (Vec F S1x1x32x256 .bf16) :=
  Prog.lift (.load bS (rS k h).toLoadRect (View.loadsAt_vmem h_S1x1x32x256))
def storeS (k : Fin 4) (h : Fin 8) (v : FVec F S1x1x32x256 .bf16) : Prog (Eff F) PUnit :=
  Prog.lift (.store bS (rS k h) v Finset.univ
    (View.stores_vmem h_S1x1x32x256 (wS.storeExact_slice rfl _ (packedS k h)) (fun _ => rfl)) (.inl rfl))
def loadC (k : Fin 4) (h : Fin 8) : Prog (Eff F) (Vec F S1x1x32x256 .bf16) :=
  Prog.lift (.load bC (rS k h).toLoadRect (View.loadsAt_vmem h_S1x1x32x256))
def send (d : Dev nD) (k : Fin 4) (h : Fin 8) : Prog (Eff F) PUnit :=
  Prog.lift (.enqueueDma (sendV k h) (.remote (Dev.tc (peer k d)) (commV k h) (.dma (sendSem k h)))
    (.dma (recvSem k h)) (sendW k h) (commW k h) ⟨⟨rfl, Or.inl rfl⟩, trivial⟩)
def waitR (k : Fin 4) (h : Fin 8) : Prog (Eff F) PUnit :=
  Prog.lift (.waitDma2 (recvSem k h) (sendV k h) (commV k h) (sendW k h) (commW k h))
def waitS (k : Fin 4) (h : Fin 8) : Prog (Eff F) PUnit :=
  Prog.lift (.waitDma2 (sendSem k h) (commV k h) (sendV k h) (commW k h) (sendW k h))

/-- Put the rounded block into send slot `(k, h)`. -/
def putS (k : Fin 4) (h : Fin 8) (v : FVec F S32x256 .f32) : Prog (Eff F) PUnit :=
  loadS k h >>= fun _ => storeS k h (packV v)
/-- Put the block into the running sum. -/
def putA (h : Fin 8) (v : FVec F S32x256 .f32) : Prog (Eff F) PUnit :=
  loadA h >>= fun _ => storeA h (storeV v)

/-- Take in the partner's block of step `k`. -/
def recvK {α : Type} (k : Fin 4) (h : Fin 8) (cont : FVec F S32x256 .f32 → Prog (Eff F) α) : Prog (Eff F) α :=
  waitR k h >>= fun _ => loadA h >>= fun a => loadC k h >>= fun b =>
    putA h (mergeV a b) >>= fun _ => cont (mergeV a b)

/-- Take in the partner's block of step `k` and send the sum on in step `k + 1`. -/
def recvFwd (d : Dev nD) (k : Fin 3) (h : Fin 8) : Prog (Eff F) PUnit :=
  recvK k.castSucc h fun v => putS k.succ h v >>= fun _ => send d k.succ h
/-- Take in the partner's block of the last step. -/
def recvLast (h : Fin 8) : Prog (Eff F) PUnit := recvK 3 h fun _ => .ret ⟨⟩

/-- Compute the device's own block and put it into the sum and into the first send slot. -/
def first (d : Dev nD) (i : Ins F) (h : Fin 8) : Prog (Eff F) PUnit :=
  putA h (partV d i h) >>= fun _ => putS 0 h (partV d i h)

def signal (d : Dev nD) (k : Fin 4) : Prog (Eff F) PUnit := semSignalWord (peer k d) barSem 1#32

/-- Read the operands. -/
def readIns {α : Type} (cont : Ins F → Prog (Eff F) α) : Prog (Eff F) α := do
  let xb : Vec F S256x128 .bf16 ← Prog.lift (.load bX rX.toLoadRect (View.loadsAt_vmem h_S256x128))
  let rw : Vec F S128x32 .bf16 ← Prog.lift (.load bR rR.toLoadRect (View.loadsAt_vmem h_S128x32))
  let ix : Vec F S256x1 .i32 ← Prog.lift (.load bI rI.toLoadRect (View.loadsAt_vmem h_S256x1))
  let w0 : Vec F S1x128x256 .bf16 ← Prog.lift (.load bW rW0.toLoadRect (View.loadsAt_vmem h_S1x128x256))
  let w1 : Vec F S1x128x256 .bf16 ← Prog.lift (.load bW rW1.toLoadRect (View.loadsAt_vmem h_S1x128x256))
  cont ⟨xb, rw, ix, w0, w1⟩

/-- The whole output block. -/
abbrev rO : Rect S256x256 := Rect.unit (s := S256x256) ![0, 0] S256x256.size inb_S256x256_S256x256_0_0
def loadO : Prog (Eff F) (Vec F S256x256 .f32) := Prog.lift (.load bO rO.toLoadRect (View.loadsAt_vmem h_S256x256))
def storeO (v : FVec F S256x256 .f32) : Prog (Eff F) PUnit :=
  Prog.lift (.store bO rO v Finset.univ (View.stores_vmem_bits_univ h_S256x256 rfl) (.inl rfl))

/-- The shared expert's result into the output. -/
def sharedStep (xb : Vec F S256x128 .bf16) : Prog (Eff F) PUnit := do
  let u : Vec F S128x256 .bf16 ← Prog.lift (.load bU rU.toLoadRect (View.loadsAt_vmem h_S128x256))
  let _o ← loadO
  storeO (sharedV xb u)

/-- The finished sum added to the output. -/
def finish : Prog (Eff F) PUnit := do
  let o : Vec F S256x256 .f32 ← loadO
  let a : Vec F S256x256 .f32 ← Prog.lift (.load bA rO.toLoadRect (View.loadsAt_vmem h_S256x256))
  let _o ← loadO
  storeO (outV o a)

/-- The body after the operands are read. -/
def rest (d : Dev nD) (i : Ins F) : Prog (Eff F) PUnit := do
  first d i 0
  semWaitWord barSem 4#32
  send d 0 0
  seqF 7 fun h => first d i h.succ >>= fun _ => send d 0 h.succ
  sharedStep i.xb
  seqF 3 fun k => seqF 8 fun h => recvFwd d k h
  seqF 8 fun h => recvLast h
  finish
  seqF 4 fun k => seqF 8 fun h => waitS k h

/-- The body. -/
def prog : Prog (Eff F) PUnit :=
  Prog.lift .deviceId >>= fun d => seqF 4 (fun k => signal d k) >>= fun _ => readIns fun i => rest d i

theorem body_eq : cc0_body (F := F) bX (Memref.isWhole_whole _) bR (Memref.isWhole_whole _) bI (Memref.isWhole_whole _)
    bW (Memref.isWhole_whole _) bU (Memref.isWhole_whole _) bO (Memref.isWhole_whole _) bA (Memref.isWhole_whole _)
    bS (Memref.isWhole_whole _) bC (Memref.isWhole_whole _) cc0_scratch3 cc0_scratch4 = prog := by
  chain_rfl

end Cert.KernelIdeal.Moe

end
-- ==== Proof.Protocol.lean ====
/-
# Partners, cells, contents, and what each semaphore hands over

Device `c` exchanges in step `k` with `peer k c`, whose number differs from `c`'s in bit `k`. Every device first tells
its four partners that it has entered the kernel, and with that signal hands each its landing slots for that step;
after waiting for its own four signals it may write into its partners' slots. Each of the 32 transfers `(k, h)` has a
semaphore of its own on the sender, which hands the send slot back, and one on the receiver, which hands over the
landing slot holding the partner's rounded block. Each of these semaphores is used once.
-/
module

public import proofs.«01_k».proof.Proof.Program
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The exchange's copy of the rounds algebra; its duties are named by the exchange step. -/
abbrev UX : Type := URounds (GSem nD τ sig) (Fin 4)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## Partners -/

theorem peer_peer (k : Fin 4) (c : Dev nD) : peer k (peer k c) = c := by revert k c; decide +kernel
theorem peer_inj (k : Fin 4) {a b : Dev nD} (h : peer k a = peer k b) : a = b := by
  rw [← peer_peer k a, h, peer_peer]
/-- Different steps have different partners. -/
theorem peer_step_inj (c : Dev nD) {k k' : Fin 4} (h : peer k c = peer k' c) : k = k' := by
  revert c k k'; decide +kernel
/-- Taking the partner, as a rearrangement of the devices. -/
def swap (k : Fin 4) : Dev nD ≃ Dev nD := ⟨peer k, peer k, peer_peer k, peer_peer k⟩

/-! ## Cells -/

/-- A transfer: its step and its row block. -/
abbrev Slot : Type := Fin 4 × Fin 8
/-- A transfer's number in program order. -/
abbrev num (s : Slot) : ℕ := 8 * s.1.val + s.2.val
/-- The semaphores of one device: the barrier's, then one per transfer for sending and one for receiving. -/
abbrev CellIx : Type := Option (Bool × Slot)

abbrev csem : CellIx → SemLoc sig
  | none => .reg barSem
  | some (false, s) => .dma (sendSem s.1 s.2)
  | some (true, s) => .dma (recvSem s.1 s.2)
abbrev kcell (x : Dev nD × CellIx) : GSem nD τ sig := ((x.1 : Thread nD τ), csem x.2)
abbrev barCell (c : Dev nD) : GSem nD τ sig := kcell (c, none)
abbrev sendCell (c : Dev nD) (s : Slot) : GSem nD τ sig := kcell (c, some (false, s))
abbrev recvCell (c : Dev nD) (s : Slot) : GSem nD τ sig := kcell (c, some (true, s))

theorem sendSem_val (k : Fin 4) (h : Fin 8) : (sendSem k h).val = 6 + (8 * k.val + h.val) := by revert k h; decide
theorem recvSem_val (k : Fin 4) (h : Fin 8) : (recvSem k h).val = 38 + (8 * k.val + h.val) := by revert k h; decide

set_option backward.proofsInPublic true in
/-- The transfer of a number. -/
def slotOf (n : ℕ) : Slot := (⟨n / 8 % 4, Nat.mod_lt _ (by decide)⟩, ⟨n % 8, Nat.mod_lt _ (by decide)⟩)
theorem slotOf_num (s : Slot) : slotOf (8 * s.1.val + s.2.val) = s := by
  obtain ⟨k, h⟩ := s; revert k h; decide

theorem num_inj {s s' : Slot} (h : num s = num s') : s = s' := by
  rw [← slotOf_num s, ← slotOf_num s']; exact congrArg slotOf h

theorem csem_injective : Function.Injective csem := by decide +kernel
theorem kcell_injective : Function.Injective kcell := by
  rintro ⟨c, x⟩ ⟨c', x'⟩ h
  have h1 : c = c' := congrArg (fun g : GSem nD τ sig => g.1.1) h
  have h2 : x = x' := csem_injective (congrArg Prod.snd h)
  rw [h1, h2]

/-- What a transfer adds to its semaphores. -/
abbrev N : ℕ := (commV 0 0).view.dmaCredit
theorem N_pos : 0 < N := View.dmaCredit_pos _ (by decide)

/-! ## Contents -/

/-- The operands as the pipeline stages them on device `c`. -/
def stX (c : Dev nD) : (cc0_stg0_0 : Ref sig .tc).ty.Contents (Elt F) :=
  (win0_0.blk (0 : Fin 1)).view.read (Elt F) (m ((c : Thread nD τ).loc main_arg0))
def stR (c : Dev nD) : (cc0_stg1_0 : Ref sig .tc).ty.Contents (Elt F) :=
  (win0_1.blk (0 : Fin 1)).view.read (Elt F) (m ((c : Thread nD τ).loc main_arg1))
def stI (c : Dev nD) : (cc0_stg2_0 : Ref sig .tc).ty.Contents (Elt F) :=
  (win0_2.blk (0 : Fin 1)).view.read (Elt F) (m ((c : Thread nD τ).loc main_arg2))
def stW (c : Dev nD) : (cc0_stg3_0 : Ref sig .tc).ty.Contents (Elt F) :=
  (win0_3.blk (0 : Fin 1)).view.read (Elt F) (m ((c : Thread nD τ).loc main_arg3))
def stU (c : Dev nD) : (cc0_stg4_0 : Ref sig .tc).ty.Contents (Elt F) :=
  (win0_4.blk (0 : Fin 1)).view.read (Elt F) (m ((c : Thread nD τ).loc main_arg4))

/-- What device `c` reads of them. -/
def insAt (c : Dev nD) : Ins F where
  xb := bX.view.readAt (Elt F) rX.toLoadRect (stX m c)
  rw := bR.view.readAt (Elt F) rR.toLoadRect (stR m c)
  ix := bI.view.readAt (Elt F) rI.toLoadRect (stI m c)
  w0 := bW.view.readAt (Elt F) rW0.toLoadRect (stW m c)
  w1 := bW.view.readAt (Elt F) rW1.toLoadRect (stW m c)

/-- The running sum's block `h` on device `c` after `k` exchange steps: its own part, then the partner's added. -/
def sumB : ℕ → Dev nD → Fin 8 → FVec F S32x256 .f32
  | 0, c, h => partV c (insAt m c) h
  | k + 1, c, h =>
    if hk : k < 4 then mergeV (sumB k c h) (packV (sumB k (peer ⟨k, hk⟩ c) h)) else sumB k c h
theorem sumB_succ (k : Fin 4) (c : Dev nD) (h : Fin 8) :
    sumB m (k.val + 1) c h = mergeV (sumB m k.val c h) (packV (sumB m k.val (peer k c) h)) := by
  rw [sumB]; exact dif_pos k.isLt

/-! ## Slots and blocks held -/

/-- The elements of slot `s` and of row block `h`. -/
abbrev slotSet (b : Memref sig .tc .vmem S4x8x32x256 .bf16) (s : Slot) := (b.access (rS s.1 s.2)).set

/-- Device `c`'s send slot `s`, holding `v`. -/
def sendH (c : Dev nD) (s : Slot) (v : FVec F S1x1x32x256 .bf16) : sProp 𝕄 :=
  iprop(∃ f : Buf (Elt F) ((bS.access (rS s.1 s.2)).loc (c : Thread nD τ)),
    ⌜(bS.access (rS s.1 s.2)).read (Elt F) f = v⌝ ∗ (bS.access (rS s.1 s.2)).loc (c : Thread nD τ) ↦[(bS.access (rS s.1 s.2)).set]{fullShare} f)
/-- Device `c`'s landing slot `s`, holding `v`. -/
def landH (c : Dev nD) (s : Slot) (v : FVec F S1x1x32x256 .bf16) : sProp 𝕄 :=
  iprop(∃ f : Buf (Elt F) ((bC.access (rS s.1 s.2)).loc (c : Thread nD τ)),
    ⌜(bC.access (rS s.1 s.2)).read (Elt F) f = v⌝ ∗ (bC.access (rS s.1 s.2)).loc (c : Thread nD τ) ↦[(bC.access (rS s.1 s.2)).set]{fullShare} f)
/-- Row block `h` of device `c`'s running sum, holding `v`. -/
def sumH (c : Dev nD) (h : Fin 8) (v : FVec F S32x256 .f32) : sProp 𝕄 :=
  iprop(∃ f : Buf (Elt F) ((bA.access (rA h)).loc (c : Thread nD τ)),
    ⌜(bA.access (rA h)).read (Elt F) f = v⌝ ∗ (bA.access (rA h)).loc (c : Thread nD τ) ↦[(bA.access (rA h)).set]{fullShare} f)
/-- The same at contents nobody looks at. -/
def sendAny (c : Dev nD) (s : Slot) : sProp 𝕄 :=
  iprop(∃ f : Buf (Elt F) ((bS.access (rS s.1 s.2)).loc (c : Thread nD τ)), (bS.access (rS s.1 s.2)).loc (c : Thread nD τ) ↦[(bS.access (rS s.1 s.2)).set]{fullShare} f)
def landAny (c : Dev nD) (s : Slot) : sProp 𝕄 :=
  iprop(∃ f : Buf (Elt F) ((bC.access (rS s.1 s.2)).loc (c : Thread nD τ)), (bC.access (rS s.1 s.2)).loc (c : Thread nD τ) ↦[(bC.access (rS s.1 s.2)).set]{fullShare} f)
def sumAny (c : Dev nD) (h : Fin 8) : sProp 𝕄 :=
  iprop(∃ f : Buf (Elt F) ((bA.access (rA h)).loc (c : Thread nD τ)), (bA.access (rA h)).loc (c : Thread nD τ) ↦[(bA.access (rA h)).set]{fullShare} f)

omit [FloatOps F] in
theorem landH_any (c : Dev nD) (s : Slot) (v : FVec F S1x1x32x256 .bf16) : (landH c s v : sProp 𝕄) ⊢ landAny c s := by
  unfold landH landAny; iintro ⟨%f, -, H⟩; iexists f; iexact H

omit [FloatOps F] in
instance landH_storable (c : Dev nD) (s : Slot) (v) : BI.Storable (upEmb : UEmb _ 𝕄) (landH (F := F) c s v) := by
  unfold landH; infer_instance
omit [FloatOps F] in
instance landAny_storable (c : Dev nD) (s : Slot) : BI.Storable (upEmb : UEmb _ 𝕄) (landAny (F := F) c s) := by
  unfold landAny; infer_instance
omit [FloatOps F] in
instance sendAny_storable (c : Dev nD) (s : Slot) : BI.Storable (upEmb : UEmb _ 𝕄) (sendAny (F := F) c s) := by
  unfold sendAny; infer_instance

/-! ## The schedule -/

/-- The signal of step `k` hands device `c` its partner's landing slots of that step. -/
def barPay (c : Dev nD) (k : Fin 4) : sProp 𝕄 := bigSep Finset.univ fun h : Fin 8 => landAny (peer k c) (k, h)
/-- The partner's transfer hands device `c` the landing slot holding the partner's rounded sum. -/
def recvPay (c : Dev nD) (s : Slot) : sProp 𝕄 := landH c s (packV (sumB m s.1.val (peer s.1 c) s.2))
/-- The device's own transfer hands its send slot back. -/
def sendPay (c : Dev nD) (s : Slot) : sProp 𝕄 := sendAny c s

instance barPay_storable (c : Dev nD) (k : Fin 4) : BI.Storable (upEmb : UEmb _ 𝕄) (barPay (F := F) c k) := by
  unfold barPay; infer_instance
instance recvPay_storable (c : Dev nD) (s : Slot) : BI.Storable (upEmb : UEmb _ 𝕄) (recvPay (F := F) m c s) := by
  unfold recvPay; infer_instance
instance sendPay_storable (c : Dev nD) (s : Slot) : BI.Storable (upEmb : UEmb _ 𝕄) (sendPay (F := F) c s) := by
  unfold sendPay; infer_instance

/-- The duties of a semaphore: the barrier's are the four steps, a transfer's semaphore has one. -/
def dutiesOf : SemLoc sig → Finset (Fin 4)
  | .reg _ => Finset.univ
  | .dma q => if 6 ≤ q.val then {0} else ∅
def payOf (c : Dev nD) (d : Fin 4) : SemLoc sig → sProp 𝕄
  | .reg _ => barPay c d
  | .dma q => if q.val < 38 then sendPay c (slotOf (q.val - 6)) else recvPay m c (slotOf (q.val - 38))
def amountOf : SemLoc sig → ℕ
  | .reg _ => 1
  | .dma _ => N

/-- One round per semaphore. -/
def rd : Rounds.Schedule (GSem nD τ sig) (Fin 4) 𝕄 where
  duties g r := if r = 0 ∧ g.1.2 = .tc then dutiesOf g.2 else ∅
  unitless _ := False
  amount g _ _ := amountOf g.2
  payload g _ d := payOf m g.1.1 d g.2
  amount_pos g _ _ _ := by
    show 0 < amountOf g.2
    cases g.2 with
    | reg _ => exact Nat.one_pos
    | dma _ => exact N_pos

instance rd_payload_storable (g : GSem nD τ sig) (r : ℕ) (d : Fin 4) :
    BI.Storable (upEmb : UEmb _ 𝕄) ((rd (F := F) m).payload g r d) := by
  show BI.Storable upEmb (payOf m g.1.1 d g.2)
  unfold payOf
  (repeat' split) <;> infer_instance

section Sched
variable (c : Dev nD) (s : Slot)

theorem duties_zero (x : CellIx) : (rd (F := F) m).duties (kcell (c, x)) 0 = dutiesOf (csem x) := by
  show (if (0 : ℕ) = 0 ∧ (kcell (c, x)).1.2 = .tc then dutiesOf (csem x) else ∅) = _
  exact if_pos ⟨rfl, rfl⟩
theorem duties_bar : (rd (F := F) m).duties (barCell c) 0 = Finset.univ := duties_zero m c _
theorem duties_send : (rd (F := F) m).duties (sendCell c s) 0 = {0} := by
  refine (duties_zero m c _).trans (if_pos ?_); rw [sendSem_val]; omega
theorem duties_recv : (rd (F := F) m).duties (recvCell c s) 0 = {0} := by
  refine (duties_zero m c _).trans (if_pos ?_); rw [recvSem_val]; omega
theorem duties_later (g : GSem nD τ sig) : ∀ r, 1 ≤ r → (rd (F := F) m).duties g r = ∅ :=
  fun r hr => if_neg fun h => by omega

theorem amount_bar (d : Fin 4) : (rd (F := F) m).amount (barCell c) 0 d = 1 := rfl
theorem amount_send (d : Fin 4) : (rd (F := F) m).amount (sendCell c s) 0 d = N := rfl
theorem amount_recv (d : Fin 4) : (rd (F := F) m).amount (recvCell c s) 0 d = N := rfl

theorem expect_bar : (rd (F := F) m).expect (barCell c) 0 = 4 := by
  unfold Schedule.expect Schedule.amountOf
  rw [duties_bar, Finset.sum_congr rfl fun d _ => amount_bar m c d]; rfl
theorem expect_send : (rd (F := F) m).expect (sendCell c s) 0 = N := by
  unfold Schedule.expect Schedule.amountOf; rw [duties_send, Finset.sum_singleton, amount_send]
theorem expect_recv : (rd (F := F) m).expect (recvCell c s) 0 = N := by
  unfold Schedule.expect Schedule.amountOf; rw [duties_recv, Finset.sum_singleton, amount_recv]

theorem payload_bar (d : Fin 4) : (rd (F := F) m).payload (barCell c) 0 d = barPay c d := rfl
theorem payload_send (d : Fin 4) : (rd (F := F) m).payload (sendCell c s) 0 d = sendPay c s := by
  have h : (sendSem s.1 s.2).val < 38 := by rw [sendSem_val]; omega
  refine (if_pos h).trans ?_
  rw [sendSem_val, Nat.add_sub_cancel_left, slotOf_num]
theorem payload_recv (d : Fin 4) : (rd (F := F) m).payload (recvCell c s) 0 d = recvPay m c s := by
  have h : ¬ (recvSem s.1 s.2).val < 38 := by rw [recvSem_val]; omega
  refine (if_neg h).trans ?_
  rw [recvSem_val, Nat.add_sub_cancel_left, slotOf_num]

theorem rest_bar : bigSep ((rd (F := F) m).duties (barCell c) 0 \ ∅) (fun d => (rd (F := F) m).payload (barCell c) 0 d)
    = bigSep Finset.univ fun d => barPay c d := by
  rw [Finset.sdiff_empty, duties_bar]
  exact bigSep_congr fun d _ => payload_bar m c d
theorem rest_send : bigSep ((rd (F := F) m).duties (sendCell c s) 0 \ ∅) (fun d => (rd (F := F) m).payload (sendCell c s) 0 d)
    = sendPay c s := by
  rw [Finset.sdiff_empty, duties_send, bigSep_singleton, payload_send]
theorem rest_recv : bigSep ((rd (F := F) m).duties (recvCell c s) 0 \ ∅) (fun d => (rd (F := F) m).payload (recvCell c s) 0 d)
    = recvPay m c s := by
  rw [Finset.sdiff_empty, duties_recv, bigSep_singleton, payload_recv]

end Sched

/-! ## What a device owes, and in which order the waits may block -/

/-- The transfers numbered `n` and later, which device `c` still owes its partners. -/
def owedX (n : ℕ) (c : Dev nD) : CellTallies nD τ sig Unit :=
  ∑ s ∈ (Finset.univ : Finset Slot).filter (fun s => n ≤ num s), tallyAt (recvCell (peer s.1 c) s) () N
/-- Those, and the signals of the steps `j` and later. -/
def owedB (j : ℕ) (c : Dev nD) : CellTallies nD τ sig Unit :=
  owedX 0 c + ∑ k ∈ (Finset.univ : Finset (Fin 4)).filter (fun k => j ≤ k.val), tallyAt (barCell (peer k c)) () 1

theorem owedX_peel (c : Dev nD) (s : Slot) :
    owedX (num s) c = owedX (num s + 1) c + tallyAt (recvCell (peer s.1 c) s) () N := by
  unfold owedX
  rw [add_comm, ← Finset.sum_insert (f := fun s : Slot => tallyAt (recvCell (peer s.1 c) s) () N) (a := s)
    (by simp)]
  refine Finset.sum_congr (Finset.ext fun t => ?_) fun _ _ => rfl
  simp only [Finset.mem_filter, Finset.mem_univ, true_and, Finset.mem_insert]
  constructor
  · intro h
    rcases Nat.eq_or_lt_of_le h with h | h
    · exact .inl (num_inj h.symm)
    · exact .inr h
  · rintro (rfl | h)
    · exact Nat.le_refl _
    · exact Nat.le_of_succ_le h
theorem owedX_end (c : Dev nD) : owedX 32 c = 0 := by
  unfold owedX
  rw [Finset.filter_false_of_mem, Finset.sum_empty]
  intro s _ h; have := s.1.isLt; have := s.2.isLt; unfold num at h; omega

theorem owedB_peel (c : Dev nD) (k : Fin 4) :
    owedB k.val c = owedB (k.val + 1) c + tallyAt (barCell (peer k c)) () 1 := by
  unfold owedB
  rw [add_assoc, add_comm (∑ _ ∈ _, _) (tallyAt _ _ _),
    ← Finset.sum_insert (f := fun k : Fin 4 => tallyAt (barCell (peer k c)) () 1) (a := k) (by simp)]
  refine congrArg _ (Finset.sum_congr (Finset.ext fun t => ?_) fun _ _ => rfl)
  simp only [Finset.mem_filter, Finset.mem_univ, true_and, Finset.mem_insert]
  constructor
  · intro h
    rcases Nat.eq_or_lt_of_le h with h | h
    · exact .inl (Fin.ext h.symm)
    · exact .inr h
  · rintro (rfl | h)
    · exact Nat.le_refl _
    · exact Nat.le_of_succ_le h
theorem owedB_end (c : Dev nD) : owedB 4 c = owedX 0 c := by
  unfold owedB
  rw [Finset.filter_false_of_mem, Finset.sum_empty, add_zero]
  intro k _; have := k.isLt; omega

theorem sum_tally_pos {I : Type} (S : Finset I) (f : I → CellTallies nD τ sig Unit) {g : GSem nD τ sig} {u : Unit}
    (h : 0 < (∑ i ∈ S, f i) g u) : ∃ i ∈ S, 0 < f i g u := by
  rw [Finset.sum_apply, Finsupp.finset_sum_apply] at h
  obtain ⟨i, hi, hne⟩ := Finset.exists_ne_zero_of_sum_ne_zero h.ne'
  exact ⟨i, hi, Nat.pos_of_ne_zero hne⟩

theorem tallyAt_pos {g g' : GSem nD τ sig} {n : ℕ} {u : Unit} (h : 0 < (tallyAt g' () n : CellTallies nD τ sig Unit) g u) :
    g = g' := by
  rw [tallyAt_apply] at h
  by_contra hne
  rw [if_neg fun h' => hne h'.1] at h
  exact Nat.lt_irrefl 0 h

theorem owedX_pos {n : ℕ} {c : Dev nD} {g : GSem nD τ sig} {u : Unit} (h : 0 < owedX n c g u) :
    ∃ s : Slot, n ≤ num s ∧ g = recvCell (peer s.1 c) s := by
  obtain ⟨s, hs, hp⟩ := sum_tally_pos _ _ h
  exact ⟨s, (Finset.mem_filter.mp hs).2, tallyAt_pos hp⟩
theorem owedB_pos {j : ℕ} {c : Dev nD} {g : GSem nD τ sig} {u : Unit} (h : 0 < owedB j c g u) :
    (∃ s : Slot, g = recvCell (peer s.1 c) s) ∨ ∃ k, g = barCell (peer k c) := by
  unfold owedB at h
  rw [Pi.add_apply, Finsupp.add_apply] at h
  rcases Nat.eq_zero_or_pos (owedX 0 c g u) with h0 | h0
  · rw [h0, Nat.zero_add] at h
    obtain ⟨k, -, hp⟩ := sum_tally_pos _ _ h
    exact .inr ⟨k, tallyAt_pos hp⟩
  · obtain ⟨s, -, hs⟩ := owedX_pos h0
    exact .inl ⟨s, hs⟩

def L (g : GSem nD τ sig) : Finset Unit := if g.1.2 = .tc then {()} else ∅
/-- The order of the waits: staging and own sends first, then the barrier, then the receives in program order. -/
def lv (g : GSem nD τ sig) (_ : Unit) : ℕ :=
  match g.2 with
  | .reg _ => 1
  | .dma q => if q.val < 38 then 0 else 2 + (q.val - 38)

theorem L_of_ne (g : GSem nD τ sig) (h : g.1.2 ≠ .tc) : L g = ∅ := if_neg h
theorem L_tc (c : Dev nD) (sm : SemLoc sig) : () ∈ L ((c : Thread nD τ), sm) := by
  rw [show L ((c : Thread nD τ), sm) = {()} from if_pos rfl]; exact Finset.mem_singleton_self _
theorem lv_bar (c : Dev nD) (u : Unit) : lv (barCell c) u = 1 := rfl
theorem lv_recv (c : Dev nD) (s : Slot) (u : Unit) : lv (recvCell c s) u = 2 + num s := by
  have h : ¬ (recvSem s.1 s.2).val < 38 := by rw [recvSem_val]; omega
  refine (if_neg h).trans ?_
  rw [recvSem_val, Nat.add_sub_cancel_left]

omit [FloatOps F] in
/-- A wait on a staging or send semaphore may block whatever is owed. -/
theorem mayWait_low (c : Dev nD) (q : DmaSem sig) (hq : q.val < 38) (O : CellTallies nD τ sig Unit)
    (hO : O = owedB 0 c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp]; exact L_tc c _)
      (fun g u hg => ?_) (fun p hp => ?_) (fun g u hg => ?_)
    · rcases owedB_pos hg with ⟨s, rfl⟩ | ⟨k, rfl⟩ <;> exact L_tc _ _
    · rw [Finset.mem_singleton.mp hp]; exact (if_pos hq).le
    · rcases owedB_pos hg with ⟨s, rfl⟩ | ⟨k, rfl⟩
      · rw [lv_recv]; omega
      · rw [lv_bar]; exact Nat.one_pos
  · rw [MayWait_zero]; iintro -; iempintro

omit [FloatOps F] in
/-- At the barrier only transfers are owed. -/
theorem mayWait_bar (c : Dev nD) : (levAts L lv : sProp 𝕄) ⊢ MayWait (c : Thread nD τ) (.reg barSem) () (owedX 0 c) :=
  MayOwe.of_cut (L := L) (lev := lv) 1 (fun p hp => by rw [Finset.mem_singleton.mp hp]; exact L_tc c _)
    (fun g u hg => by obtain ⟨s, -, rfl⟩ := owedX_pos hg; exact L_tc _ _)
    (fun p hp => by rw [Finset.mem_singleton.mp hp]; exact (lv_bar c _).le)
    (fun g u hg => by obtain ⟨s, -, rfl⟩ := owedX_pos hg; rw [lv_recv]; omega)

omit [FloatOps F] in
/-- At receive `s` only later transfers are owed. -/
theorem mayWait_recv (c : Dev nD) (s : Slot) (n : ℕ) (hn : num s < n) :
    (levAts L lv : sProp 𝕄) ⊢ MayWait (c : Thread nD τ) (.dma (recvSem s.1 s.2)) () (owedX n c) :=
  MayOwe.of_cut (L := L) (lev := lv) (2 + num s) (fun p hp => by rw [Finset.mem_singleton.mp hp]; exact L_tc c _)
    (fun g u hg => by obtain ⟨t, -, rfl⟩ := owedX_pos hg; exact L_tc _ _)
    (fun p hp => by rw [Finset.mem_singleton.mp hp]; exact (lv_recv c s _).le)
    (fun g u hg => by obtain ⟨t, ht, rfl⟩ := owedX_pos hg; rw [lv_recv]; omega)

end Cert.KernelIdeal.Moe

end
-- ==== Proof.Steps.lean ====
/-
# What each step of the body does to the memory and the semaphores

Each lemma takes the pieces a step needs, and gives the pieces it leaves to whatever follows.
-/
module

public import proofs.«01_k».proof.Proof.Protocol
public import Idealize.ShloMosaic.Lib.Pipeline.Value

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs `p` safely and ends in `Kt`. -/
abbrev WP {α : Type} (c : Dev nD) (p : Prog (Eff F) α) (Kt : α → sProp 𝕄) : sProp 𝕄 :=
  wp frame (wpE (defs₀ (F := F)) 𝒱₀ (c : Thread nD τ) none) Set.univ p Kt

theorem WP_bind {α β : Type} (c : Dev nD) (p : Prog (Eff F) α) (k : α → Prog (Eff F) β) (Kt : β → sProp 𝕄) :
    WP c (p >>= k) Kt = WP c p (fun a => WP c (k a) Kt) := by simp only [WP, wp_bind]

/-! ## A loop, step by step -/

omit [FloatOps F] in
/-- A family over `n + 1` indices is its first member and the others. -/
theorem bigSep_first {n : ℕ} (P : Fin (n + 1) → sProp 𝕄) :
    bigSep Finset.univ P = iprop(P 0 ∗ bigSep Finset.univ fun i : Fin n => P i.succ) := by
  rw [Fin.univ_succ, Finset.cons_eq_insert, bigSep_insert (by simp [Fin.succ_ne_zero]), bigSep_map]
  rfl

/-- A loop whose step `i` turns `P i` into `Q i`, `R` being carried along. -/
theorem wp_seqF (c : Dev nD) : ∀ (n : ℕ) (f : Fin n → Prog (Eff F) PUnit) (P Q : Fin n → sProp 𝕄) (R : ℕ → sProp 𝕄)
    (_ : ∀ (i : Fin n) (Kt : PUnit → sProp 𝕄), iprop(P i ∗ R i.val) ⊢ iprop(((Q i ∗ R (i.val + 1)) -∗ Kt ⟨⟩) -∗ WP c (f i) Kt))
    (Kt : PUnit → sProp 𝕄),
    iprop(bigSep Finset.univ P ∗ R 0) ⊢ iprop(((bigSep Finset.univ Q ∗ R n) -∗ Kt ⟨⟩) -∗ WP c (seqF n f) Kt)
  | 0, f, P, Q, R, _, Kt => by
    unfold seqF
    simp only [WP, wp_ret]
    iintro ⟨-, HR⟩ Hk
    imodintro
    iapply Hk
    isplitr
    · rw [Finset.univ_eq_empty, bigSep_empty]; iempintro
    · iexact HR
  | n + 1, f, P, Q, R, h, Kt => by
    unfold seqF
    rw [WP_bind, bigSep_first, bigSep_first]
    iintro ⟨⟨HP, HPs⟩, HR⟩ Hk
    have h0 : ∀ Kt : PUnit → sProp 𝕄, iprop(P 0 ∗ R 0) ⊢ iprop(((Q 0 ∗ R (0 + 1)) -∗ Kt ⟨⟩) -∗ WP c (f 0) Kt) := h 0
    iapply (h0 _) $$ [HP HR]
    · isplitl [HP]; · iexact HP
      iexact HR
    iintro ⟨HQ, HR⟩
    iapply (wp_seqF c n (fun i => f i.succ) (fun i => P i.succ) (fun i => Q i.succ) (fun i => R (i + 1))
      (fun i Kt => h i.succ Kt) Kt) $$ [HPs HR]
    · isplitl [HPs]; · iexact HPs
      iexact HR
    iintro ⟨HQs, HR⟩
    iapply Hk
    isplitl [HQ HQs]
    · isplitl [HQ] <;> iassumption
    iexact HR

/-! ## Blocks of the sum -/

section Mem
variable (c : Dev nD)

omit [FloatOps F] in
theorem sumAny_ex (h : Fin 8) : (sumAny c h : sProp 𝕄) ⊢ iprop(∃ v, sumH c h v) := by
  unfold sumAny sumH
  iintro ⟨%f, H⟩
  iexists ((bA.access (rA h)).read (Elt F) f); iexists f
  isplitr; · ipureintro; rfl
  iexact H
omit [FloatOps F] in
theorem sumH_any (h : Fin 8) (v : FVec F S32x256 .f32) : (sumH c h v : sProp 𝕄) ⊢ sumAny c h := by
  unfold sumAny sumH
  iintro ⟨%f, -, H⟩; iexists f; iexact H
omit [FloatOps F] in
theorem sendAny_ex (s : Slot) : (sendAny c s : sProp 𝕄) ⊢ iprop(∃ v, sendH c s v) := by
  unfold sendAny sendH
  iintro ⟨%f, H⟩
  iexists ((bS.access (rS s.1 s.2)).read (Elt F) f); iexists f
  isplitr; · ipureintro; rfl
  iexact H
omit [FloatOps F] in
theorem sendH_any (s : Slot) (v : FVec F S1x1x32x256 .bf16) : (sendH c s v : sProp 𝕄) ⊢ sendAny c s := by
  unfold sendAny sendH
  iintro ⟨%f, -, H⟩; iexists f; iexact H

theorem storeV_eq (v : FVec F S32x256 .f32) : storeV v = v := by
  unfold storeV; exact shapeCast_self _ _

theorem step_loadA (h : Fin 8) (v : FVec F S32x256 .f32) (Kt : Vec F S32x256 .f32 → sProp 𝕄) :
    (sumH c h v : sProp 𝕄) ⊢ iprop((sumH c h v -∗ Kt v) -∗ WP c (loadA h) Kt) := by
  unfold sumH loadA
  simp only [Prog.lift]
  iintro ⟨%f, %hf, H⟩ Hk
  iapply (wp_load_rect 𝒱₀ (c : Thread nD τ) none Set.univ (m := bA) (r := rA h) (Finset.Subset.refl _)) $$ H
  iintro H
  rw [wp_ret, hf]; imodintro
  iapply Hk
  iexists f
  isplitr; · ipureintro; exact hf
  iexact H

theorem step_storeA (h : Fin 8) (v : FVec F S32x256 .f32) (Kt : PUnit → sProp 𝕄) :
    (sumAny c h : sProp 𝕄) ⊢ iprop((sumH c h v -∗ Kt ⟨⟩) -∗ WP c (storeA h v) Kt) := by
  unfold sumAny sumH storeA
  simp only [Prog.lift]
  iintro ⟨%f, H⟩ Hk
  iapply (wp_store 𝒱₀ (c : Thread nD τ) none Set.univ (m := bA) (r := rA h) (Mk := Finset.univ) (S := (bA.access (rA h)).set) (Finset.Subset.refl _)) $$ H
  iintro H
  rw [wp_ret]; imodintro
  iapply Hk
  iexists ((bA.access (rA h)).write (Elt F) f v Finset.univ)
  isplitr; · ipureintro; exact View.read_write_univ _ _
  iexact H

theorem step_putA (h : Fin 8) (v : FVec F S32x256 .f32) (Kt : PUnit → sProp 𝕄) :
    (sumAny c h : sProp 𝕄) ⊢ iprop((sumH c h v -∗ Kt ⟨⟩) -∗ WP c (putA h v) Kt) := by
  unfold putA
  rw [WP_bind, storeV_eq]
  iintro H Hk
  ihave H := (sumAny_ex c h) $$ H
  icases H with ⟨%v', H⟩
  iapply (step_loadA c h v' _) $$ H
  iintro H
  ihave H := (sumH_any c h v') $$ H
  iapply (step_storeA c h v Kt) $$ H
  iexact Hk

theorem step_loadS (s : Slot) (v : FVec F S1x1x32x256 .bf16) (Kt : Vec F S1x1x32x256 .bf16 → sProp 𝕄) :
    (sendH c s v : sProp 𝕄) ⊢ iprop((sendH c s v -∗ Kt v) -∗ WP c (loadS s.1 s.2) Kt) := by
  unfold sendH loadS
  simp only [Prog.lift]
  iintro ⟨%f, %hf, H⟩ Hk
  iapply (wp_load_rect 𝒱₀ (c : Thread nD τ) none Set.univ (m := bS) (r := rS s.1 s.2) (Finset.Subset.refl _)) $$ H
  iintro H
  rw [wp_ret, hf]; imodintro
  iapply Hk
  iexists f
  isplitr; · ipureintro; exact hf
  iexact H

theorem step_loadC (s : Slot) (v : FVec F S1x1x32x256 .bf16) (Kt : Vec F S1x1x32x256 .bf16 → sProp 𝕄) :
    (landH c s v : sProp 𝕄) ⊢ iprop((landH c s v -∗ Kt v) -∗ WP c (loadC s.1 s.2) Kt) := by
  unfold landH loadC
  simp only [Prog.lift]
  iintro ⟨%f, %hf, H⟩ Hk
  iapply (wp_load_rect 𝒱₀ (c : Thread nD τ) none Set.univ (m := bC) (r := rS s.1 s.2) (Finset.Subset.refl _)) $$ H
  iintro H
  rw [wp_ret, hf]; imodintro
  iapply Hk
  iexists f
  isplitr; · ipureintro; exact hf
  iexact H

theorem step_storeS (s : Slot) (v : FVec F S1x1x32x256 .bf16) (Kt : PUnit → sProp 𝕄) :
    (sendAny c s : sProp 𝕄) ⊢ iprop((sendH c s v -∗ Kt ⟨⟩) -∗ WP c (storeS s.1 s.2 v) Kt) := by
  unfold sendAny sendH storeS
  simp only [Prog.lift]
  iintro ⟨%f, H⟩ Hk
  iapply (wp_store 𝒱₀ (c : Thread nD τ) none Set.univ (m := bS) (r := rS s.1 s.2) (Mk := Finset.univ) (S := (bS.access (rS s.1 s.2)).set) (Finset.Subset.refl _)) $$ H
  iintro H
  rw [wp_ret]; imodintro
  iapply Hk
  iexists ((bS.access (rS s.1 s.2)).write (Elt F) f v Finset.univ)
  isplitr; · ipureintro; exact View.read_write_univ _ _
  iexact H

theorem step_putS (s : Slot) (v : FVec F S32x256 .f32) (Kt : PUnit → sProp 𝕄) :
    (sendAny c s : sProp 𝕄) ⊢ iprop((sendH c s (packV v) -∗ Kt ⟨⟩) -∗ WP c (putS s.1 s.2 v) Kt) := by
  unfold putS
  rw [WP_bind]
  iintro H Hk
  ihave H := (sendAny_ex c s) $$ H
  icases H with ⟨%v', H⟩
  iapply (step_loadS c s v' _) $$ H
  iintro H
  ihave H := (sendH_any c s v') $$ H
  iapply (step_storeS c s (packV v) Kt) $$ H
  iexact Hk

end Mem

/-! ## What every step knows: the semaphores' records and the order of the waits -/

variable (K : Dev nD × CellIx → ℕ)

/-- Every semaphore's record, and that it has reached its only round. -/
def recs : sProp 𝕄 :=
  bigSep Finset.univ fun x : Dev nD × CellIx => iprop(cellInv EX (rd (F := F) m) (K x) (kcell x) ∗ reached EX (kcell x) 0)

instance recs_persistent : BI.Persistent (recs (F := F) m K) := by unfold recs; infer_instance

theorem recs_at (x : Dev nD × CellIx) :
    (recs m K : sProp 𝕄) ⊢ iprop(cellInv EX (rd (F := F) m) (K x) (kcell x) ∗ reached EX (kcell x) 0) := by
  unfold recs; exact bigSep_elim (Finset.mem_univ x)
theorem recs_inv (x : Dev nD × CellIx) : (recs m K : sProp 𝕄) ⊢ cellInv EX (rd (F := F) m) (K x) (kcell x) := by
  iintro H
  ihave H := (recs_at m K x) $$ H
  icases H with ⟨H, -⟩; iexact H
theorem recs_reached (x : Dev nD × CellIx) : (recs m K : sProp 𝕄) ⊢ reached EX (kcell x) 0 := by
  iintro H
  ihave H := (recs_at m K x) $$ H
  icases H with ⟨-, H⟩; iexact H

/-- The records, the order, and that device `c` owes `O`. -/
def ctl (c : Dev nD) (O : CellTallies nD τ sig Unit) : sProp 𝕄 :=
  iprop(recs m K ∗ levAts L lv ∗ ∃ W, owes (c : Thread nD τ) O W)

/-! ## Signals, transfers, waits -/

section Sync
variable (c : Dev nD)

/-- The signal of step `k`: the landing slots of that step go to the partner. -/
theorem step_signal (k : Fin 4) (Kt : PUnit → sProp 𝕄) :
    iprop((dutyTok EX (barCell (peer k c)) 0 k ∗ bigSep Finset.univ fun h : Fin 8 => landAny c (k, h)) ∗ ctl m K c (owedB k.val c))
      ⊢ iprop(((emp ∗ ctl m K c (owedB (k.val + 1) c)) -∗ Kt ⟨⟩) -∗ WP c (signal (F := F) c k) Kt) := by
  unfold signal ctl
  simp only [semSignalWord, Prog.lift]
  iintro ⟨⟨Htok, Hland⟩, #Hrec, #Hlev, %W, HO⟩ Hk
  iapply (Rounds.wp_signal 𝒱₀ EX (rd m) (c : Thread nD τ) none (dst := (peer k c : Thread nD τ)) (κ := K (peer k c, none))
      (d := k) (r := 0) (by rw [duties_bar]; exact Finset.mem_univ _) ((amount_bar m (peer k c) k).trans (by decide)) ()
      (owedB (k.val + 1) c) (owedB_peel c k)) $$ [HO Htok Hland]
  · isplitr; · iapply (recs_inv m K (peer k c, none)); iexact Hrec
    isplitl [HO]; · iexact HO
    isplitl [Htok]; · iexact Htok
    isplitl [Hland]
    · rw [payload_bar]; unfold barPay; rw [peer_peer]; iexact Hland
    · iapply (recs_reached m K (peer k c, none)); iexact Hrec
  iintro HO
  rw [wp_ret]; imodintro
  iapply Hk
  isplitr; · iempintro
  isplitr; · iexact Hrec
  isplitr; · iexact Hlev
  iexists W; iexact HO

/-- The barrier wait: the partners' landing slots come, and the barrier semaphore is done with. -/
theorem step_barrier (Kt : PUnit → sProp 𝕄) :
    iprop((cred (tallyAt (barCell c) () 4) ∗ atPos EX (barCell c) 0 ∅ 0) ∗ ctl m K c (owedX 0 c))
      ⊢ iprop((((bigSep Finset.univ fun k : Fin 4 => barPay c k) ∗ semVal (barCell c) 0 ∗ ctl m K c (owedX 0 c)) -∗ Kt ⟨⟩)
          -∗ WP c (semWaitWord barSem 4#32) Kt) := by
  unfold ctl
  simp only [semWaitWord, Prog.lift]
  iintro ⟨⟨Hc, Hat⟩, #Hrec, #Hlev, %W, HO⟩ Hk
  iapply (Rounds.wp_wait_rest_token 𝒱₀ EX (rd m) (c : Thread nD τ) none (κ := K (c, none))
      (wpE_semWait_eq 𝒱₀ (c : Thread nD τ) none Set.univ) (Set.mem_univ _) () (O := owedX 0 c) (W := W) (R := 0) (m := 0) (T := ∅)
      (by rw [expect_bar]; decide)) $$ [Hc HO Hat]
  · isplitr; · iapply (recs_inv m K (c, none)); iexact Hrec
    isplitl [Hc]; · iexact Hc
    isplitl [HO]; · iexact HO
    isplitr; · iapply (mayWait_bar c); iexact Hlev
    iexact Hat
  iintro ⟨HO, Hat, -, Hpay⟩
  ihave Hpay := (Entails.of_eq (rest_bar m c)) $$ Hpay
  imod (Rounds.cell_close EX (rd m) (Set.mem_univ (K (c, none))) (fun h => h) (R := 0 + 1) (duties_later m (barCell c))) $$ [Hat] with Hz
  · isplitr; · iapply (recs_inv m K (c, none)); iexact Hrec
    iexact Hat
  rw [wp_ret]; imodintro
  iapply Hk
  isplitl [Hpay]; · iexact Hpay
  isplitl [Hz]; · iexact Hz
  isplitr; · iexact Hrec
  isplitr; · iexact Hlev
  iexists _; iexact HO

/-- The slot a transfer writes reads what the slot it came from reads. -/
theorem landed (s : Slot) (fs : (cc0_scratch1 : Ref sig .tc).ty.Contents (Elt F)) (fd : (cc0_scratch2 : Ref sig .tc).ty.Contents (Elt F)) :
    (bC.access (rS s.1 s.2)).read (Elt F)
      ((commV s.1 s.2).view.write (Elt F) fd ((sendV s.1 s.2).view.read (Elt F) fs) Finset.univ)
      = (bS.access (rS s.1 s.2)).read (Elt F) fs := by
  funext y
  obtain ⟨x, rfl⟩ := (Shape.reshapeEquiv squeezes_S1x1x32x256_S32x256.numel_eq).surjective y
  exact congrFun (View.read_write_univ (v := (commV s.1 s.2).view) fd ((sendV s.1 s.2).view.read (Elt F) fs)) x

/-- Transfer `s`. -/
theorem step_send (s : Slot) (Kt : PUnit → sProp 𝕄) :
    iprop((sendH c s (packV (sumB m s.1.val c s.2)) ∗ dutyTok EX (sendCell c s) 0 0 ∗ dutyTok EX (recvCell (peer s.1 c) s) 0 0
        ∗ landAny (peer s.1 c) s) ∗ ctl m K c (owedX (num s) c))
      ⊢ iprop(((cred (tallyAt (sendCell c s) () N) ∗ ctl m K c (owedX (num s + 1) c)) -∗ Kt ⟨⟩)
          -∗ WP c (send (F := F) c s.1 s.2) Kt) := by
  unfold ctl send sendH landAny
  simp only [Prog.lift]
  iintro ⟨⟨⟨%fs, %hfs, Hs⟩, HtS, HtR, ⟨%fd, Hd⟩⟩, #Hrec, #Hlev, %W, HO⟩ Hk
  iapply (Rounds.wp_send_pointsTo 𝒱₀ EX (rd m) (c : Thread nD τ) none (κ₁ := K (c, some (false, s))) (κ₂ := K (peer s.1 c, some (true, s)))
    (src := sendV s.1 s.2) (dst := commV s.1 s.2) (q := fullShare) (fs := fs) (fd := fd) (c' := (peer s.1 c : Thread nD τ))
    (r₁ := 0) (r₂ := 0) (d₁ := 0) (d₂ := 0)
    (by rw [duties_send]; exact Finset.mem_singleton_self _) (by rw [duties_recv]; exact Finset.mem_singleton_self _)
    () () N rfl (amount_send m c s 0) (amount_recv m (peer s.1 c) s 0) (owedX (num s + 1) c) (owedX_peel c s) (W := W)
    (by
      rw [payload_send]; unfold sendPay sendAny
      rw [View.set_reshape]
      iintro H; iexists fs; iexact H)
    (by
      rw [payload_recv]; unfold recvPay landH
      rw [View.set_reshape, peer_peer]
      iintro H
      iexists _
      isplitr
      rotate_left
      · iexact H
      · ipureintro; rw [landed, hfs])) $$ [Hs Hd HO HtS HtR]
  · isplitr; · iapply (recs_inv m K (c, some (false, s))); iexact Hrec
    isplitr; · iapply (recs_inv m K (peer s.1 c, some (true, s))); iexact Hrec
    rw [View.set_reshape, View.set_reshape]
    isplitl [Hs]; · iexact Hs
    isplitl [Hd]; · iexact Hd
    isplitl [HO]; · iexact HO
    isplitl [HtS]; · iexact HtS
    isplitr; · iapply (recs_reached m K (c, some (false, s))); iexact Hrec
    isplitl [HtR]; · iexact HtR
    iapply (recs_reached m K (peer s.1 c, some (true, s))); iexact Hrec
  iintro ⟨Hc, HO⟩
  rw [wp_ret]; imodintro
  iapply Hk
  isplitl [Hc]; · iexact Hc
  isplitr; · iexact Hrec
  isplitr; · iexact Hlev
  iexists W; iexact HO

/-- The wait for the partner's transfer `s`. -/
theorem step_waitR (s : Slot) (n : ℕ) (hn : num s < n) (Kt : PUnit → sProp 𝕄) :
    iprop((cred (tallyAt (recvCell c s) () N) ∗ atPos EX (recvCell c s) 0 ∅ 0) ∗ ctl m K c (owedX n c))
      ⊢ iprop(((recvPay m c s ∗ semVal (recvCell c s) 0 ∗ ctl m K c (owedX n c)) -∗ Kt ⟨⟩)
          -∗ WP c (waitR (F := F) s.1 s.2) Kt) := by
  unfold ctl waitR
  simp only [Prog.lift]
  iintro ⟨⟨Hc, Hat⟩, #Hrec, #Hlev, %W, HO⟩ Hk
  iapply (Rounds.wp_wait_rest_token 𝒱₀ EX (rd m) (c : Thread nD τ) none (κ := K (c, some (true, s)))
      (wpE_waitDma2_eq 𝒱₀ (c : Thread nD τ) none Set.univ) (Set.mem_univ _) () (O := owedX n c) (W := W) (R := 0) (m := 0) (T := ∅)
      (by rw [Nat.zero_add, expect_recv])) $$ [Hc HO Hat]
  · isplitr; · iapply (recs_inv m K (c, some (true, s))); iexact Hrec
    isplitl [Hc]; · iexact Hc
    isplitl [HO]; · iexact HO
    isplitr; · iapply (mayWait_recv c s n hn); iexact Hlev
    iexact Hat
  iintro ⟨HO, Hat, -, Hpay⟩
  ihave Hpay := (Entails.of_eq (rest_recv m c s)) $$ Hpay
  imod (Rounds.cell_close EX (rd m) (Set.mem_univ (K (c, some (true, s)))) (fun h => h) (R := 0 + 1) (duties_later m (recvCell c s))) $$ [Hat] with Hz
  · isplitr; · iapply (recs_inv m K (c, some (true, s))); iexact Hrec
    iexact Hat
  rw [wp_ret]; imodintro
  iapply Hk
  isplitl [Hpay]; · iexact Hpay
  isplitl [Hz]; · iexact Hz
  isplitr; · iexact Hrec
  isplitr; · iexact Hlev
  iexists _; iexact HO

/-- The wait for the device's own transfer `s`, when nothing is owed any more. -/
theorem step_waitS (s : Slot) (Kt : PUnit → sProp 𝕄) :
    iprop((cred (tallyAt (sendCell c s) () N) ∗ atPos EX (sendCell c s) 0 ∅ 0) ∗ ctl m K c 0)
      ⊢ iprop((((sendAny c s ∗ semVal (sendCell c s) 0) ∗ ctl m K c 0) -∗ Kt ⟨⟩)
          -∗ WP c (waitS (F := F) s.1 s.2) Kt) := by
  unfold ctl waitS
  simp only [Prog.lift]
  iintro ⟨⟨Hc, Hat⟩, #Hrec, #Hlev, %W, HO⟩ Hk
  iapply (Rounds.wp_wait_rest_token 𝒱₀ EX (rd m) (c : Thread nD τ) none (κ := K (c, some (false, s)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (recs_inv m K (c, some (false, s))); iexact Hrec
    isplitl [Hc]; · iexact Hc
    isplitl [HO]; · iexact HO
    isplitr; · rw [MayWait_zero]; iempintro
    iexact Hat
  iintro ⟨HO, Hat, -, Hpay⟩
  ihave Hpay := (Entails.of_eq (rest_send m c s)) $$ Hpay
  imod (Rounds.cell_close EX (rd m) (Set.mem_univ (K (c, some (false, s)))) (fun h => h) (R := 0 + 1) (duties_later m (sendCell c s))) $$ [Hat] with Hz
  · isplitr; · iapply (recs_inv m K (c, some (false, s))); iexact Hrec
    iexact Hat
  rw [wp_ret]; imodintro
  iapply Hk
  isplitl [Hpay Hz]
  · isplitl [Hpay]; · unfold sendPay; iexact Hpay
    iexact Hz
  isplitr; · iexact Hrec
  isplitr; · iexact Hlev
  iexists _; iexact HO

end Sync

end Cert.KernelIdeal.Moe

end
-- ==== Proof.Body.lean ====
/-
# The body on device `c`, from the first signal to the last wait

The phases of the body as loops over exchange steps and row blocks, each from one lemma about its step, and then the body
as a whole: every landing, send and sum block comes back, every semaphore is at zero, and the output holds the shared
expert's result plus the finished sum.
-/
module

public import proofs.«01_k».proof.Proof.Steps

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
theorem zipped {I : Type} [Fintype I] (P Q : I → sProp 𝕄) :
    iprop(bigSep Finset.univ P ∗ bigSep Finset.univ Q) ⊢ bigSep Finset.univ fun i => iprop(P i ∗ Q i) :=
  Entails.of_eq (bigSep_sep' _ _ _).symm
omit [FloatOps F] in
theorem unzipped {I : Type} [Fintype I] (P Q : I → sProp 𝕄) :
    (bigSep Finset.univ fun i => iprop(P i ∗ Q i)) ⊢ iprop(bigSep Finset.univ P ∗ bigSep Finset.univ Q) :=
  Entails.of_eq (bigSep_sep' _ _ _)

/-! ## Buffers cut into blocks and joined again -/

/-- The block and the position in it of an index of the sum. -/
def rowOf (i : S256x256.Idx) : Fin 8 := ⟨(i 0).val / 32, by have : (i 0).val < 256 := (i 0).isLt; omega⟩
def inRow (i : S256x256.Idx) : S32x256.Idx :=
  fun | ⟨0, _⟩ => ⟨(i 0).val % 32, Nat.mod_lt _ (by decide)⟩ | ⟨1, _⟩ => ⟨(i 1).val, (i 1).isLt⟩
/-- The whole array of which block `h` is `v h`. -/
def sumW (v : Fin 8 → FVec F S32x256 .f32) : FVec F S256x256 .f32 := fun i => v (rowOf i) (inRow i)

theorem rA_emb (i : S256x256.Idx) : (rA (rowOf i)).emb (inRow i) = i := by
  funext a
  refine Fin.ext ?_
  match a with
  | ⟨0, _⟩ =>
    show 32 * ((i 0).val / 32) + 1 * ((i 0).val % 32) = (i 0).val
    omega
  | ⟨1, _⟩ =>
    show 0 + 1 * (i 1).val = (i 1).val
    omega

/-- The elements of row block `h`, and of the slots. -/
abbrev sumSet (h : Fin 8) : Finset S256x256.Idx := (bA.access (rA h)).set
abbrev sendSet (s : Slot) : Finset S4x8x32x256.Idx := (bS.access (rS s.1 s.2)).set
abbrev landSet (s : Slot) : Finset S4x8x32x256.Idx := (bC.access (rS s.1 s.2)).set
theorem sumSet_eq (h : Fin 8) : sumSet h = (rA h).set := View.set_slice_whole _ _
theorem sendSet_eq (s : Slot) : sendSet s = (rS s.1 s.2).set := View.set_slice_whole _ _
theorem landSet_eq (s : Slot) : landSet s = (rS s.1 s.2).set := View.set_slice_whole _ _
theorem mem_sumSet (i : S256x256.Idx) : i ∈ sumSet (rowOf i) := by
  rw [sumSet_eq, Rect.mem_set_unit]
  intro a
  match a with
  | ⟨0, _⟩ =>
    show 32 * ((i 0).val / 32) ≤ (i 0).val ∧ (i 0).val < 32 * ((i 0).val / 32) + 32
    omega
  | ⟨1, _⟩ => exact ⟨Nat.zero_le _, by show (i 1).val < 0 + 256; rw [Nat.zero_add]; exact (i 1).isLt⟩

theorem rA_disjoint (h h' : Fin 8) (hne : h ≠ h') : Disjoint (bA.access (rA h)).set (bA.access (rA h')).set := by
  rw [View.set_slice_whole, View.set_slice_whole]
  refine Rect.unit_disjoint 0 ?_
  have : h.val ≠ h'.val := fun e => hne (Fin.ext e)
  show 32 * h.val + 32 ≤ 32 * h'.val ∨ 32 * h'.val + 32 ≤ 32 * h.val
  omega
theorem rA_cover : Finset.univ.biUnion sumSet = Finset.univ := by
  refine Finset.eq_univ_iff_forall.mpr fun i => Finset.mem_biUnion.mpr ⟨rowOf i, Finset.mem_univ _, mem_sumSet i⟩

theorem rS_disjoint (s s' : Slot) (hne : s ≠ s') : Disjoint (rS s.1 s.2).set (rS s'.1 s'.2).set := by
  by_cases hk : s.1 = s'.1
  · have hh : s.2.val ≠ s'.2.val := fun e => hne (Prod.ext hk (Fin.ext e))
    refine Rect.unit_disjoint 1 ?_
    show s.2.val + 1 ≤ s'.2.val ∨ s'.2.val + 1 ≤ s.2.val
    omega
  · have hh : s.1.val ≠ s'.1.val := fun e => hk (Fin.ext e)
    refine Rect.unit_disjoint 0 ?_
    show s.1.val + 1 ≤ s'.1.val ∨ s'.1.val + 1 ≤ s.1.val
    omega
/-- The slot an index lies in. -/
def slotAt (i : S4x8x32x256.Idx) : Slot := (⟨(i 0).val, (i 0).isLt⟩, ⟨(i 1).val, (i 1).isLt⟩)
theorem rS_cover (i : S4x8x32x256.Idx) : i ∈ (rS (slotAt i).1 (slotAt i).2).set := by
  rw [Rect.mem_set_unit]
  intro a
  match a with
  | ⟨0, _⟩ => exact ⟨Nat.le_refl _, Nat.lt_succ_self _⟩
  | ⟨1, _⟩ => exact ⟨Nat.le_refl _, Nat.lt_succ_self _⟩
  | ⟨2, _⟩ => exact ⟨Nat.zero_le _, by show (i 2).val < 0 + 32; rw [Nat.zero_add]; exact (i 2).isLt⟩
  | ⟨3, _⟩ => exact ⟨Nat.zero_le _, by show (i 3).val < 0 + 256; rw [Nat.zero_add]; exact (i 3).isLt⟩

theorem send_disjoint (s s' : Slot) (hne : s ≠ s') : Disjoint (bS.access (rS s.1 s.2)).set (bS.access (rS s'.1 s'.2)).set := by
  rw [View.set_slice_whole, View.set_slice_whole]; exact rS_disjoint s s' hne
theorem send_cover : Finset.univ.biUnion sendSet = Finset.univ := by
  refine Finset.eq_univ_iff_forall.mpr fun i => Finset.mem_biUnion.mpr ⟨slotAt i, Finset.mem_univ _, ?_⟩
  rw [sendSet_eq]; exact rS_cover i
theorem land_disjoint (s s' : Slot) (hne : s ≠ s') : Disjoint (bC.access (rS s.1 s.2)).set (bC.access (rS s'.1 s'.2)).set := by
  rw [View.set_slice_whole, View.set_slice_whole]; exact rS_disjoint s s' hne
theorem land_cover : Finset.univ.biUnion landSet = Finset.univ := by
  refine Finset.eq_univ_iff_forall.mpr fun i => Finset.mem_biUnion.mpr ⟨slotAt i, Finset.mem_univ _, ?_⟩
  rw [landSet_eq]; exact rS_cover i

section Cut
variable (c : Dev nD)

omit [FloatOps F] in
theorem sum_cut (f : Buf (Elt F) ((c : Thread nD τ).loc cc0_scratch0)) :
    ((((c : Thread nD τ).loc cc0_scratch0) ↦{fullShare} f : sProp 𝕄)) ⊢ bigSep Finset.univ fun h => sumAny c h := by
  rw [Ring.pointsTo_blocks (ℓ := (c : Thread nD τ).loc cc0_scratch0) sumSet rA_disjoint rA_cover f]
  have e : ∀ h ∈ (Finset.univ : Finset (Fin 8)), (((c : Thread nD τ).loc cc0_scratch0 ↦[sumSet h]{fullShare} f : sProp 𝕄)) ⊢ sumAny c h := by
    intro h _
    unfold sumAny
    iintro H; iexists f; iexact H
  exact bigSep_mono e
omit [FloatOps F] in
theorem send_cut (f : Buf (Elt F) ((c : Thread nD τ).loc cc0_scratch1)) :
    ((((c : Thread nD τ).loc cc0_scratch1) ↦{fullShare} f : sProp 𝕄)) ⊢ bigSep Finset.univ fun s => sendAny c s := by
  rw [Ring.pointsTo_blocks (ℓ := (c : Thread nD τ).loc cc0_scratch1) sendSet send_disjoint send_cover f]
  have e : ∀ h ∈ (Finset.univ : Finset (Slot)), (((c : Thread nD τ).loc cc0_scratch1 ↦[sendSet h]{fullShare} f : sProp 𝕄)) ⊢ sendAny c h := by
    intro h _
    unfold sendAny
    iintro H; iexists f; iexact H
  exact bigSep_mono e
omit [FloatOps F] in
theorem land_cut (f : Buf (Elt F) ((c : Thread nD τ).loc cc0_scratch2)) :
    ((((c : Thread nD τ).loc cc0_scratch2) ↦{fullShare} f : sProp 𝕄)) ⊢ bigSep Finset.univ fun s => landAny c s := by
  rw [Ring.pointsTo_blocks (ℓ := (c : Thread nD τ).loc cc0_scratch2) landSet land_disjoint land_cover f]
  have e : ∀ h ∈ (Finset.univ : Finset (Slot)), (((c : Thread nD τ).loc cc0_scratch2 ↦[landSet h]{fullShare} f : sProp 𝕄)) ⊢ landAny c h := by
    intro h _
    unfold landAny
    iintro H; iexists f; iexact H
  exact bigSep_mono e

theorem send_join : (bigSep Finset.univ fun s => sendAny c s : sProp 𝕄)
    ⊢ iprop(∃ f : Buf (Elt F) ((c : Thread nD τ).loc cc0_scratch1), ((c : Thread nD τ).loc cc0_scratch1) ↦{fullShare} f) :=
  Ring.pointsTo_blocks_join_exists (ℓ := (c : Thread nD τ).loc cc0_scratch1) sendSet
    send_disjoint send_cover (fun _ => (FloatOps.ofBits .bf16 0#16 : F .bf16))
theorem land_join : (bigSep Finset.univ fun s => landAny c s : sProp 𝕄)
    ⊢ iprop(∃ f : Buf (Elt F) ((c : Thread nD τ).loc cc0_scratch2), ((c : Thread nD τ).loc cc0_scratch2) ↦{fullShare} f) :=
  Ring.pointsTo_blocks_join_exists (ℓ := (c : Thread nD τ).loc cc0_scratch2) landSet
    land_disjoint land_cover (fun _ => (FloatOps.ofBits .bf16 0#16 : F .bf16))

/-- The blocks of the sum together are the sum held whole. -/
theorem sum_join (v : Fin 8 → FVec F S32x256 .f32) : (bigSep Finset.univ fun h => sumH c h (v h) : sProp 𝕄)
    ⊢ iprop(∃ f : Buf (Elt F) ((c : Thread nD τ).loc cc0_scratch0), ⌜f = sumW v⌝ ∗ ((c : Thread nD τ).loc cc0_scratch0) ↦{fullShare} f) := by
  have hN : Nonempty (Buf (Elt F) ((c : Thread nD τ).loc cc0_scratch0)) := ⟨sumW v⟩
  unfold sumH
  refine (bigSep_exists_pi Finset.univ (fun (h : Fin 8) (f : Buf (Elt F) ((bA.access (rA h)).loc (c : Thread nD τ))) =>
    (iprop(⌜(bA.access (rA h)).read (Elt F) f = v h⌝ ∗ (bA.access (rA h)).loc (c : Thread nD τ) ↦[(bA.access (rA h)).set]{fullShare} f) : sProp 𝕄))).trans ?_
  iintro ⟨%fs, H⟩
  ihave H := (bigSep_pure_sep Finset.univ (fun h : Fin 8 => (bA.access (rA h)).read (Elt F) (fs h) = v h) _) $$ H
  icases H with ⟨%hr, H⟩
  ihave H := (pointsTo_biUnion_join (ℓ := (c : Thread nD τ).loc cc0_scratch0) Finset.univ sumSet fs (sumW v)
    (fun h _ h' _ hne => rA_disjoint h h' hne)) $$ H
  rw [rA_cover]
  icases H with ⟨%g, %hg, H⟩
  iexists g
  isplitr
  · ipureintro
    funext i
    have h1 := congrFun (hr (rowOf i) (Finset.mem_univ _)) (inRow i)
    have h2 := hg (rowOf i) (Finset.mem_univ _) i (mem_sumSet i)
    rw [h2]
    refine Eq.trans ?_ h1
    show fs (rowOf i) i = fs (rowOf i) ((rA (rowOf i)).emb (inRow i))
    rw [rA_emb]
  · iexact H

end Cut

/-! ## The staged operands and the output -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem zeros2 : (![0, 0] : Fin 2 → Nat) = fun _ => 0 := by decide

/-- The kernel's result on device `c`. -/
def outAt (c : Dev nD) : (cc0_stg5_0 : Ref sig .tc).ty.Contents (Elt F) :=
  outV (sharedV (insAt m c).xb (bU.view.readAt (Elt F) rU.toLoadRect (stU m c))) (sumW fun h => sumB m 4 c h)

section Whole
variable (c : Dev nD)

theorem step_readIns {α : Type} (cont : Ins F → Prog (Eff F) α) (Kt : α → sProp 𝕄) :
    iprop(stg c cc0_stg0_0 (stX m c) ∗ stg c cc0_stg1_0 (stR m c) ∗ stg c cc0_stg2_0 (stI m c) ∗ stg c cc0_stg3_0 (stW m c))
      ⊢ iprop(((stg c cc0_stg0_0 (stX m c) ∗ stg c cc0_stg1_0 (stR m c) ∗ stg c cc0_stg2_0 (stI m c) ∗ stg c cc0_stg3_0 (stW m c))
          -∗ WP c (cont (insAt m c)) Kt) -∗ WP c (readIns cont) Kt) := by
  unfold readIns
  simp only [Prog.lift, Prog.bind_op, Prog.bind_ret]
  iintro ⟨⟨%f0, %h0, H0⟩, ⟨%f1, %h1, H1⟩, ⟨%f2, %h2, H2⟩, ⟨%f3, %h3, H3⟩⟩ Hk
  subst h0 h1 h2 h3
  iapply (wp_load 𝒱₀ (c : Thread nD τ) none Set.univ (m := bX) (r := rX.toLoadRect) (Finset.subset_univ _)) $$ H0; iintro H0
  iapply (wp_load 𝒱₀ (c : Thread nD τ) none Set.univ (m := bR) (r := rR.toLoadRect) (Finset.subset_univ _)) $$ H1; iintro H1
  iapply (wp_load 𝒱₀ (c : Thread nD τ) none Set.univ (m := bI) (r := rI.toLoadRect) (Finset.subset_univ _)) $$ H2; iintro H2
  iapply (wp_load 𝒱₀ (c : Thread nD τ) none Set.univ (m := bW) (r := rW0.toLoadRect) (Finset.subset_univ _)) $$ H3; iintro H3
  iapply (wp_load 𝒱₀ (c : Thread nD τ) none Set.univ (m := bW) (r := rW1.toLoadRect) (Finset.subset_univ _)) $$ H3; iintro H3
  iapply Hk
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  · iexists _; isplitr; · (ipureintro; rfl)
    iexact H3

theorem write_out (f w : (cc0_stg5_0 : Ref sig .tc).ty.Contents (Elt F)) : (bO.access rO).write (Elt F) f w Finset.univ = w :=
  Memref.write_access_unit_zero_univ (Elt F) cc0_stg5_0 zeros2 _ f w
theorem read_out (f : (cc0_stg5_0 : Ref sig .tc).ty.Contents (Elt F)) : bO.view.readAt (Elt F) rO.toLoadRect f = f :=
  Memref.readAt_unit_zero (Elt F) cc0_stg5_0 zeros2 _ f
theorem read_sum (f : (cc0_scratch0 : Ref sig .tc).ty.Contents (Elt F)) : bA.view.readAt (Elt F) rO.toLoadRect f = f :=
  Memref.readAt_unit_zero (Elt F) cc0_scratch0 zeros2 _ f

theorem step_shared (o : (cc0_stg5_0 : Ref sig .tc).ty.Contents (Elt F)) (Kt : PUnit → sProp 𝕄) :
    iprop(stg c cc0_stg4_0 (stU m c) ∗ stg c cc0_stg5_0 o)
      ⊢ iprop(((stg c cc0_stg4_0 (stU m c)
          ∗ stg c cc0_stg5_0 (sharedV (insAt m c).xb (bU.view.readAt (Elt F) rU.toLoadRect (stU m c)))) -∗ Kt ⟨⟩)
        -∗ WP c (sharedStep (insAt m c).xb) Kt) := by
  unfold sharedStep loadO storeO
  simp only [Prog.lift, Prog.bind_op, Prog.bind_ret]
  iintro ⟨⟨%f4, %h4, H4⟩, ⟨%f5, %h5, H5⟩⟩ Hk
  subst h4 h5
  iapply (wp_load 𝒱₀ (c : Thread nD τ) none Set.univ (m := bU) (r := rU.toLoadRect) (Finset.subset_univ _)) $$ H4; iintro H4
  iapply (wp_load 𝒱₀ (c : Thread nD τ) none Set.univ (m := bO) (r := rO.toLoadRect) (Finset.subset_univ _)) $$ H5; iintro H5
  iapply (wp_store 𝒱₀ (c : Thread nD τ) none Set.univ (m := bO) (r := rO) (Mk := Finset.univ) (Finset.subset_univ _)) $$ H5; iintro H5
  rw [write_out, wp_ret]; imodintro
  iapply Hk
  isplitl [H4]
  · iexists _; isplitr; · (ipureintro; rfl)
    iexact H4
  · iexists _; isplitr; · (ipureintro; rfl)
    iexact H5

theorem step_finish (o a : FVec F S256x256 .f32) (Kt : PUnit → sProp 𝕄) :
    iprop(stg c cc0_stg5_0 o ∗ stg c cc0_scratch0 a)
      ⊢ iprop(((stg c cc0_stg5_0 (outV o a) ∗ stg c cc0_scratch0 a) -∗ Kt ⟨⟩) -∗ WP c finish Kt) := by
  unfold finish loadO storeO
  simp only [Prog.lift, Prog.bind_op, Prog.bind_ret]
  iintro ⟨⟨%f4, %h4, H4⟩, ⟨%f5, %h5, H5⟩⟩ Hk
  subst h4 h5
  iapply (wp_load 𝒱₀ (c : Thread nD τ) none Set.univ (m := bO) (r := rO.toLoadRect) (Finset.subset_univ _)) $$ H4; iintro H4
  iapply (wp_load 𝒱₀ (c : Thread nD τ) none Set.univ (m := bA) (r := rO.toLoadRect) (Finset.subset_univ _)) $$ H5; iintro H5
  iapply (wp_load 𝒱₀ (c : Thread nD τ) none Set.univ (m := bO) (r := rO.toLoadRect) (Finset.subset_univ _)) $$ H4; iintro H4
  iapply (wp_store 𝒱₀ (c : Thread nD τ) none Set.univ (m := bO) (r := rO) (Mk := Finset.univ) (Finset.subset_univ _)) $$ H4; iintro H4
  rw [write_out, read_out, read_sum, wp_ret]; imodintro
  iapply Hk
  isplitl [H4]
  · iexists _; isplitr; · (ipureintro; rfl)
    iexact H4
  · iexists _; isplitr; · (ipureintro; rfl)
    iexact H5

end Whole

/-! ## The steps of the loops -/

variable (K : Dev nD × CellIx → ℕ)

/-- What transfer `s` needs besides the landing slot, and what receiving it needs. -/
def sndR (c : Dev nD) (s : Slot) : sProp 𝕄 :=
  iprop(sendAny c s ∗ dutyTok EX (sendCell c s) 0 0 ∗ dutyTok EX (recvCell (peer s.1 c) s) 0 0)
def rcvR (c : Dev nD) (s : Slot) : sProp 𝕄 :=
  iprop(cred (tallyAt (recvCell c s) () N) ∗ atPos EX (recvCell c s) 0 ∅ 0)
/-- A landing slot and its semaphore, both done with. -/
def landD (c : Dev nD) (s : Slot) : sProp 𝕄 := iprop(landAny c s ∗ semVal (recvCell c s) 0)
/-- A send slot and its semaphore, both done with. -/
def sendD (c : Dev nD) (s : Slot) : sProp 𝕄 := iprop(sendAny c s ∗ semVal (sendCell c s) 0)

section Loops
variable (c : Dev nD)

theorem step_first (h : Fin 8) (Kt : PUnit → sProp 𝕄) :
    iprop(sumAny c h ∗ sendAny c (0, h))
      ⊢ iprop(((sumH c h (sumB m 0 c h) ∗ sendH c (0, h) (packV (sumB m 0 c h))) -∗ Kt ⟨⟩) -∗ WP c (first c (insAt m c) h) Kt) := by
  unfold first
  rw [WP_bind, show partV c (insAt m c) h = sumB m 0 c h from rfl]
  iintro ⟨HA, HS⟩ Hk
  iapply (step_putA c h (sumB m 0 c h) _) $$ HA
  iintro HA
  iapply (step_putS c (0, h) (sumB m 0 c h) Kt) $$ HS
  iintro HS
  iapply Hk
  isplitl [HA] <;> iassumption

/-- A transfer whose slot has been filled, its number given. -/
theorem step_send' (s : Slot) (n : ℕ) (hn : num s = n) (v : FVec F S32x256 .f32) (hv : v = sumB m s.1.val c s.2) (Kt : PUnit → sProp 𝕄) :
    iprop(sendH c s (packV v) ∗ (dutyTok EX (sendCell c s) 0 0 ∗ dutyTok EX (recvCell (peer s.1 c) s) 0 0)
        ∗ landAny (peer s.1 c) s ∗ ctl m K c (owedX n c))
      ⊢ iprop(((cred (tallyAt (sendCell c s) () N) ∗ ctl m K c (owedX (n + 1) c)) -∗ Kt ⟨⟩)
          -∗ WP c (send (F := F) c s.1 s.2) Kt) := by
  subst hn hv
  iintro ⟨H1, ⟨H2, H3⟩, H4, H5⟩ Hk
  iapply (step_send m K c s Kt) $$ [H1 H2 H3 H4 H5]
  · isplitr [H5]
    · isplitl [H1]; · iexact H1
      isplitl [H2]; · iexact H2
      isplitl [H3]; · iexact H3
      iexact H4
    · iexact H5
  iexact Hk

theorem step_firstSend (h : Fin 8) (n : ℕ) (hn : h.val = n) (Kt : PUnit → sProp 𝕄) :
    iprop((sumAny c h ∗ sndR c (0, h) ∗ landAny (peer 0 c) (0, h)) ∗ ctl m K c (owedX n c))
      ⊢ iprop((((sumH c h (sumB m 0 c h) ∗ cred (tallyAt (sendCell c (0, h)) () N)) ∗ ctl m K c (owedX (n + 1) c)) -∗ Kt ⟨⟩)
          -∗ WP c (first c (insAt m c) h >>= fun _ => send c 0 h) Kt) := by
  rw [WP_bind]
  unfold sndR
  iintro ⟨⟨HA, ⟨HS, HT⟩, HL⟩, HC⟩ Hk
  iapply (step_first m c h _) $$ [HA HS]
  · isplitl [HA] <;> iassumption
  iintro ⟨HA, HS⟩
  iapply (step_send' m K c (0, h) n (by show 8 * 0 + h.val = n; omega) (sumB m 0 c h) rfl Kt) $$ [HS HT HL HC]
  · isplitl [HS]; · iexact HS
    isplitl [HT]; · iexact HT
    isplitl [HL]; · iexact HL
    iexact HC
  iintro ⟨Hc, HC⟩
  iapply Hk
  isplitr [HC]
  · isplitl [HA] <;> iassumption
  · iexact HC

/-- Taking in the partner's block. -/
theorem step_recvK {α : Type} (s : Slot) (n : ℕ) (hn : num s < n) (cont : FVec F S32x256 .f32 → Prog (Eff F) α) (Kt : α → sProp 𝕄) :
    iprop((rcvR c s ∗ sumH c s.2 (sumB m s.1.val c s.2)) ∗ ctl m K c (owedX n c))
      ⊢ iprop((((landD c s ∗ sumH c s.2 (sumB m (s.1.val + 1) c s.2)) ∗ ctl m K c (owedX n c))
            -∗ WP c (cont (sumB m (s.1.val + 1) c s.2)) Kt)
          -∗ WP c (recvK s.1 s.2 cont) Kt) := by
  unfold recvK rcvR landD
  rw [WP_bind]
  iintro ⟨⟨HR, HA⟩, HC⟩ Hk
  iapply (step_waitR m K c s n hn _) $$ [HR HC]
  · isplitl [HR] <;> iassumption
  iintro ⟨HL, Hz, HC⟩
  unfold recvPay
  rw [WP_bind]
  iapply (step_loadA c s.2 (sumB m s.1.val c s.2) _) $$ HA
  iintro HA
  rw [WP_bind]
  iapply (step_loadC c s _ _) $$ HL
  iintro HL
  rw [WP_bind, ← sumB_succ]
  ihave HA := (sumH_any c s.2 _) $$ HA
  iapply (step_putA c s.2 (sumB m (s.1.val + 1) c s.2) _) $$ HA
  iintro HA
  iapply Hk
  isplitr [HC]
  · isplitr [HA]
    · isplitl [HL]; · iapply (landH_any c s _); iexact HL
      iexact Hz
    · iexact HA
  · iexact HC

theorem step_recvFwd (k : Fin 3) (h : Fin 8) (n : ℕ) (hn : 8 * (k.val + 1) + h.val = n) (Kt : PUnit → sProp 𝕄) :
    iprop((rcvR c (k.castSucc, h) ∗ sumH c h (sumB m k.val c h) ∗ sndR c (k.succ, h) ∗ landAny (peer k.succ c) (k.succ, h))
        ∗ ctl m K c (owedX n c))
      ⊢ iprop((((landD c (k.castSucc, h) ∗ sumH c h (sumB m (k.val + 1) c h) ∗ cred (tallyAt (sendCell c (k.succ, h)) () N))
            ∗ ctl m K c (owedX (n + 1) c)) -∗ Kt ⟨⟩)
          -∗ WP c (recvFwd c k h) Kt) := by
  unfold recvFwd sndR
  iintro ⟨⟨HR, HA, ⟨HS, HT⟩, HL⟩, HC⟩ Hk
  iapply (step_recvK m K c (k.castSucc, h) n (by show 8 * k.val + h.val < n; omega) _ Kt) $$ [HR HA HC]
  · isplitr [HC]
    · isplitl [HR]; · iexact HR
      iexact HA
    · iexact HC
  iintro ⟨⟨HD, HA⟩, HC⟩
  rw [WP_bind]
  iapply (step_putS c (k.succ, h) _ _) $$ HS
  iintro HS
  iapply (step_send' m K c (k.succ, h) n hn (sumB m (k.castSucc.val + 1) c h) rfl Kt) $$ [HS HT HL HC]
  · isplitl [HS]; · iexact HS
    isplitl [HT]; · iexact HT
    isplitl [HL]; · iexact HL
    iexact HC
  iintro ⟨Hc, HC⟩
  iapply Hk
  isplitr [HC]
  · isplitl [HD]; · iexact HD
    isplitl [HA]; · iexact HA
    iexact Hc
  · iexact HC

theorem step_recvLast (h : Fin 8) (Kt : PUnit → sProp 𝕄) :
    iprop((rcvR c (3, h) ∗ sumH c h (sumB m 3 c h)) ∗ ctl m K c (owedX 32 c))
      ⊢ iprop((((landD c (3, h) ∗ sumH c h (sumB m 4 c h)) ∗ ctl m K c (owedX 32 c)) -∗ Kt ⟨⟩) -∗ WP c (recvLast h) Kt) := by
  unfold recvLast
  iintro ⟨⟨HR, HA⟩, HC⟩ Hk
  iapply (step_recvK m K c (3, h) 32 (by show 8 * 3 + h.val < 32; omega) _ Kt) $$ [HR HA HC]
  · isplitr [HC]
    · isplitl [HR]; · iexact HR
      iexact HA
    · iexact HC
  iintro ⟨⟨HD, HA⟩, HC⟩
  simp only [WP, wp_ret]; imodintro
  iapply Hk
  isplitr [HC]
  · isplitl [HD]; · iexact HD
    iexact HA
  · iexact HC

/-- The exchange steps 0, 1 and 2: every block is taken in and sent on. -/
theorem loop_fwd (Kt : PUnit → sProp 𝕄) :
    iprop((bigSep Finset.univ fun k : Fin 3 => bigSep Finset.univ fun h : Fin 8 =>
          iprop(rcvR c (k.castSucc, h) ∗ sndR c (k.succ, h) ∗ landAny (peer k.succ c) (k.succ, h)))
        ∗ (bigSep Finset.univ fun h : Fin 8 => sumH c h (sumB m 0 c h)) ∗ ctl m K c (owedX 8 c))
      ⊢ iprop((((bigSep Finset.univ fun k : Fin 3 => bigSep Finset.univ fun h : Fin 8 =>
            iprop(landD c (k.castSucc, h) ∗ cred (tallyAt (sendCell c (k.succ, h)) () N)))
          ∗ (bigSep Finset.univ fun h : Fin 8 => sumH c h (sumB m 3 c h)) ∗ ctl m K c (owedX 32 c)) -∗ Kt ⟨⟩)
        -∗ WP c (seqF 3 fun k => seqF 8 fun h => recvFwd c k h) Kt) := by
  refine wp_seqF c 3 _ _ _ (fun k => iprop((bigSep Finset.univ fun h : Fin 8 => sumH c h (sumB m k c h)) ∗ ctl m K c (owedX (8 * (k + 1)) c)))
    (fun k Kt => ?_) Kt
  iintro ⟨HP, HA, HC⟩ Hk
  ihave HP := (zipped _ _) $$ [HA HP]
  · isplitl [HA] <;> iassumption
  iapply (wp_seqF c 8 (fun h => recvFwd c k h)
    (fun h => iprop(sumH c h (sumB m k.val c h) ∗ rcvR c (k.castSucc, h) ∗ sndR c (k.succ, h) ∗ landAny (peer k.succ c) (k.succ, h)))
    (fun h => iprop((landD c (k.castSucc, h) ∗ cred (tallyAt (sendCell c (k.succ, h)) () N)) ∗ sumH c h (sumB m (k.val + 1) c h)))
    (fun h => ctl m K c (owedX (8 * (k.val + 1) + h) c)) (fun h Kt => by
      iintro ⟨⟨HA, HR, HS, HL⟩, HC⟩ Hk
      iapply (step_recvFwd m K c k h _ rfl Kt) $$ [HA HR HS HL HC]
      · isplitr [HC]
        · isplitl [HR]; · iexact HR
          isplitl [HA]; · iexact HA
          isplitl [HS]; · iexact HS
          iexact HL
        · iexact HC
      iintro ⟨⟨HD, HA, Hc⟩, HC⟩
      iapply Hk
      isplitr [HC]
      · isplitr [HA]
        · isplitl [HD] <;> iassumption
        · iexact HA
      · iexact HC) Kt) $$ [HP HC]
  · isplitl [HP]; · iexact HP
    iexact HC
  iintro ⟨HP, HC⟩
  ihave HP := (unzipped _ _) $$ HP
  icases HP with ⟨HP, HA⟩
  iapply Hk
  isplitl [HP]; · iexact HP
  isplitl [HA]; · iexact HA
  iexact HC

end Loops

end Cert.KernelIdeal.Moe

end
-- ==== Proof.Whole.lean ====
/-
# The whole body on device `c`
-/
module

public import proofs.«01_k».proof.Proof.Body

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
/-- A family over `n + 1` indices is all but its last member, and that one. -/
theorem bigSep_last {n : ℕ} (P : Fin (n + 1) → sProp 𝕄) :
    bigSep Finset.univ P = iprop((bigSep Finset.univ fun i : Fin n => P i.castSucc) ∗ P (Fin.last n)) := by
  rw [Fin.univ_castSuccEmb, Finset.cons_eq_insert, bigSep_insert (by simp), bigSep_map]
  exact BI.equiv_iff.mp ⟨sep_comm, sep_comm⟩

omit [FloatOps F] in
theorem unzipped2 {I J : Type} [Fintype I] [Fintype J] (P Q : I → J → sProp 𝕄) :
    (bigSep Finset.univ fun i => bigSep Finset.univ fun j => iprop(P i j ∗ Q i j))
      ⊢ iprop((bigSep Finset.univ fun i => bigSep Finset.univ fun j => P i j) ∗ bigSep Finset.univ fun i => bigSep Finset.univ fun j => Q i j) := by
  rw [← bigSep_sep']
  exact Entails.of_eq (bigSep_congr fun i _ => bigSep_sep' _ _ _)
omit [FloatOps F] in
theorem zipped2 {I J : Type} [Fintype I] [Fintype J] (P Q : I → J → sProp 𝕄) :
    iprop((bigSep Finset.univ fun i => bigSep Finset.univ fun j => P i j) ∗ bigSep Finset.univ fun i => bigSep Finset.univ fun j => Q i j)
      ⊢ (bigSep Finset.univ fun i => bigSep Finset.univ fun j => iprop(P i j ∗ Q i j)) := by
  rw [← bigSep_sep']
  exact Entails.of_eq (bigSep_congr fun i _ => (bigSep_sep' _ _ _).symm)

variable (K : Dev nD × CellIx → ℕ) (c : Dev nD)

/-- What the body starts from. -/
def bodyPre : sProp 𝕄 :=
  iprop(ctl m K c (owedB 0 c) ∗ (cred (tallyAt (barCell c) () 4) ∗ atPos EX (barCell c) 0 ∅ 0)
    ∗ (bigSep Finset.univ fun k : Fin 4 => iprop(dutyTok EX (barCell (peer k c)) 0 k ∗ bigSep Finset.univ fun h : Fin 8 => landAny c (k, h)))
    ∗ (bigSep Finset.univ fun h : Fin 8 => sumAny c h)
    ∗ (bigSep Finset.univ fun k : Fin 4 => bigSep Finset.univ fun h : Fin 8 => sndR c (k, h))
    ∗ (bigSep Finset.univ fun k : Fin 4 => bigSep Finset.univ fun h : Fin 8 => rcvR c (k, h))
    ∗ (bigSep Finset.univ fun k : Fin 4 => bigSep Finset.univ fun h : Fin 8 => atPos EX (sendCell c (k, h)) 0 ∅ 0)
    ∗ (stg c cc0_stg0_0 (stX m c) ∗ stg c cc0_stg1_0 (stR m c) ∗ stg c cc0_stg2_0 (stI m c) ∗ stg c cc0_stg3_0 (stW m c))
    ∗ stg c cc0_stg4_0 (stU m c) ∗ ∃ o, stg c cc0_stg5_0 o)

/-- What it ends in. -/
def bodyPost : sProp 𝕄 :=
  iprop(ctl m K c 0 ∗ semVal (barCell c) 0
    ∗ (bigSep Finset.univ fun k : Fin 4 => bigSep Finset.univ fun h : Fin 8 => landD c (k, h))
    ∗ (bigSep Finset.univ fun k : Fin 4 => bigSep Finset.univ fun h : Fin 8 => sendD c (k, h))
    ∗ stg c cc0_scratch0 (sumW fun h => sumB m 4 c h)
    ∗ (stg c cc0_stg0_0 (stX m c) ∗ stg c cc0_stg1_0 (stR m c) ∗ stg c cc0_stg2_0 (stI m c) ∗ stg c cc0_stg3_0 (stW m c))
    ∗ stg c cc0_stg4_0 (stU m c) ∗ stg c cc0_stg5_0 (outAt m c))

/-- The four signals. -/
theorem loop_signal (Kt : PUnit → sProp 𝕄) :
    iprop((bigSep Finset.univ fun k : Fin 4 => iprop(dutyTok EX (barCell (peer k c)) 0 k ∗ bigSep Finset.univ fun h : Fin 8 => landAny c (k, h)))
        ∗ ctl m K c (owedB 0 c))
      ⊢ iprop((ctl m K c (owedX 0 c) -∗ Kt ⟨⟩) -∗ WP c (seqF 4 fun k => signal (F := F) c k) Kt) := by
  rw [← owedB_end]
  iintro ⟨H, HC⟩ Hk
  iapply (wp_seqF c 4 (fun k => signal (F := F) c k) _ (fun _ => iprop(emp)) (fun k => ctl m K c (owedB k c))
    (fun k Kt => step_signal m K c k Kt) Kt) $$ [H HC]
  · isplitl [H]; · iexact H
    iexact HC
  iintro ⟨-, HC⟩
  iapply Hk; iexact HC

/-- The blocks 1 to 7 computed and sent. -/
theorem loop_first (Kt : PUnit → sProp 𝕄) :
    iprop((bigSep Finset.univ fun h : Fin 7 => iprop(sumAny c h.succ ∗ sndR c (0, h.succ) ∗ landAny (peer 0 c) (0, h.succ)))
        ∗ ctl m K c (owedX 1 c))
      ⊢ iprop((((bigSep Finset.univ fun h : Fin 7 => iprop(sumH c h.succ (sumB m 0 c h.succ) ∗ cred (tallyAt (sendCell c (0, h.succ)) () N)))
          ∗ ctl m K c (owedX 8 c)) -∗ Kt ⟨⟩)
        -∗ WP c (seqF 7 fun h => first c (insAt m c) h.succ >>= fun _ => send c 0 h.succ) Kt) :=
  wp_seqF c 7 _ _ _ (fun h => ctl m K c (owedX (h + 1) c)) (fun h Kt => step_firstSend m K c h.succ (h.val + 1) rfl Kt) Kt

/-- The last exchange step. -/
theorem loop_last (Kt : PUnit → sProp 𝕄) :
    iprop((bigSep Finset.univ fun h : Fin 8 => iprop(rcvR c (3, h) ∗ sumH c h (sumB m 3 c h))) ∗ ctl m K c (owedX 32 c))
      ⊢ iprop((((bigSep Finset.univ fun h : Fin 8 => iprop(landD c (3, h) ∗ sumH c h (sumB m 4 c h))) ∗ ctl m K c (owedX 32 c)) -∗ Kt ⟨⟩)
        -∗ WP c (seqF 8 fun h => recvLast h) Kt) :=
  wp_seqF c 8 _ _ _ (fun _ => ctl m K c (owedX 32 c)) (fun h Kt => step_recvLast m K c h Kt) Kt

/-- The waits for the device's own transfers. -/
theorem loop_waitS (Kt : PUnit → sProp 𝕄) :
    iprop((bigSep Finset.univ fun k : Fin 4 => bigSep Finset.univ fun h : Fin 8 =>
          iprop(cred (tallyAt (sendCell c (k, h)) () N) ∗ atPos EX (sendCell c (k, h)) 0 ∅ 0)) ∗ ctl m K c 0)
      ⊢ iprop((((bigSep Finset.univ fun k : Fin 4 => bigSep Finset.univ fun h : Fin 8 => sendD c (k, h)) ∗ ctl m K c 0) -∗ Kt ⟨⟩)
        -∗ WP c (seqF 4 fun k => seqF 8 fun h => waitS (F := F) k h) Kt) :=
  wp_seqF c 4 _ _ _ (fun _ => ctl m K c 0) (fun k Kt =>
    wp_seqF c 8 _ _ _ (fun _ => ctl m K c 0) (fun h Kt => step_waitS m K c (k, h) Kt) Kt) Kt

/-- The body, phase by phase. -/
theorem run_prog (Kt : PUnit → sProp 𝕄) :
    bodyPre m K c ⊢ iprop((bodyPost m K c -∗ Kt ⟨⟩) -∗ WP c (prog (F := F)) Kt) := by
  unfold bodyPre prog
  rw [WP_bind]
  simp only [Prog.lift]
  iintro ⟨HC, HB, HSig, HA, HS, HR, HW, HIn, H4, ⟨%o, H5⟩⟩ Hk
  rw [WP, wp_deviceId, wp_ret]
  imodintro
  rw [WP_bind]
  iapply (loop_signal m K c _) $$ [HSig HC]
  · isplitl [HSig] <;> iassumption
  iintro HC
  iapply (step_readIns m c _ Kt) $$ HIn
  iintro HIn
  unfold rest
  -- cut the families where the program does
  ihave HA := (Entails.of_eq (bigSep_first _)) $$ HA
  icases HA with ⟨HA0, HA⟩
  ihave HS := (Entails.of_eq (bigSep_first _)) $$ HS
  icases HS with ⟨HS0, HS⟩
  ihave HS0 := (Entails.of_eq (bigSep_first _)) $$ HS0
  icases HS0 with ⟨HS0, HS1⟩
  ihave HR := (Entails.of_eq (bigSep_last _)) $$ HR
  icases HR with ⟨HR, HR3⟩
  ihave HS0 := (Entails.of_eq (show sndR c (0, 0) = iprop(sendAny c (0, 0) ∗ dutyTok EX (sendCell c (0, 0)) 0 0
    ∗ dutyTok EX (recvCell (peer 0 c) (0, 0)) 0 0) from rfl)) $$ HS0
  icases HS0 with ⟨HS0, HT0⟩
  -- block 0
  rw [WP_bind]
  iapply (step_first m c 0 _) $$ [HA0 HS0]
  · isplitl [HA0] <;> iassumption
  iintro ⟨HA0, HS0⟩
  -- the barrier
  rw [WP_bind]
  iapply (step_barrier m K c _) $$ [HB HC]
  · isplitl [HB] <;> iassumption
  iintro ⟨HL, Hz, HC⟩
  ihave HL := (Entails.of_eq (bigSep_first _)) $$ HL
  icases HL with ⟨HL0, HL⟩
  ihave HL0 := (Entails.of_eq ((show barPay c 0 = bigSep Finset.univ fun h : Fin 8 => landAny (peer 0 c) (0, h) from rfl).trans (bigSep_first _))) $$ HL0
  icases HL0 with ⟨HL0, HL1⟩
  rw [WP_bind]
  iapply (step_send' m K c (0, 0) 0 rfl (sumB m 0 c 0) rfl _) $$ [HS0 HT0 HL0 HC]
  · isplitl [HS0]; · iexact HS0
    isplitl [HT0]; · iexact HT0
    isplitl [HL0]; · iexact HL0
    iexact HC
  iintro ⟨Hc0, HC⟩
  -- blocks 1 to 7
  ihave HSL := (zipped _ _) $$ [HS1 HL1]
  · isplitl [HS1] <;> iassumption
  ihave HP := (zipped _ _) $$ [HA HSL]
  · isplitl [HA] <;> iassumption
  rw [WP_bind]
  iapply (loop_first m K c _) $$ [HP HC]
  · isplitl [HP]; · iexact HP
    iexact HC
  iintro ⟨HP, HC⟩
  ihave HP := (unzipped _ _) $$ HP
  icases HP with ⟨HA, Hc⟩
  -- the shared expert
  rw [WP_bind]
  iapply (step_shared m c o _) $$ [H4 H5]
  · isplitl [H4] <;> iassumption
  iintro ⟨H4, H5⟩
  -- the exchange
  rw [WP_bind]
  ihave HL := (Entails.of_eq (show (bigSep Finset.univ fun k : Fin 3 => barPay c k.succ)
    = bigSep Finset.univ fun k : Fin 3 => bigSep Finset.univ fun h : Fin 8 => landAny (peer k.succ c) (k.succ, h) from rfl)) $$ HL
  ihave HSL := (zipped2 (fun (k : Fin 3) (h : Fin 8) => sndR c (k.succ, h))
    (fun k h => landAny (peer k.succ c) (k.succ, h))) $$ [HS HL]
  · isplitl [HS]; · iexact HS
    iexact HL
  ihave HP := (zipped2 (fun (k : Fin 3) (h : Fin 8) => rcvR c (k.castSucc, h))
    (fun k h => iprop(sndR c (k.succ, h) ∗ landAny (peer k.succ c) (k.succ, h)))) $$ [HR HSL]
  · isplitl [HR]; · iexact HR
    iexact HSL
  iapply (loop_fwd m K c _) $$ [HP HA0 HA HC]
  · isplitl [HP]; · iexact HP
    isplitl [HA0 HA]
    · rw [bigSep_first (fun h : Fin 8 => sumH c h (sumB m 0 c h))]
      isplitl [HA0] <;> iassumption
    iexact HC
  iintro ⟨HP, HA, HC⟩
  ihave HP := (unzipped2 _ _) $$ HP
  icases HP with ⟨HD, Hcs⟩
  -- the last step
  rw [WP_bind]
  ihave HP := (zipped _ _) $$ [HR3 HA]
  · isplitl [HR3] <;> iassumption
  iapply (loop_last m K c _) $$ [HP HC]
  · isplitl [HP]; · iexact HP
    iexact HC
  iintro ⟨HP, HC⟩
  ihave HP := (unzipped _ _) $$ HP
  icases HP with ⟨HD3, HA⟩
  ihave HA := (sum_join c fun h => sumB m 4 c h) $$ HA
  -- the result
  rw [WP_bind]
  iapply (step_finish c _ _ _) $$ [H5 HA]
  · isplitl [H5]; · iexact H5
    iexact HA
  iintro ⟨H5, HA⟩
  -- the own transfers
  rw [owedX_end]
  ihave HP := (zipped2 (fun (k : Fin 4) (h : Fin 8) => cred (tallyAt (sendCell c (k, h)) () N))
    (fun k h => atPos EX (sendCell c (k, h)) 0 ∅ 0)) $$ [Hc0 Hc Hcs HW]
  · isplitl [Hc0 Hc Hcs]
    rotate_left
    · iexact HW
    rw [bigSep_first (fun k : Fin 4 => bigSep Finset.univ fun h : Fin 8 => cred (tallyAt (sendCell c (k, h)) () N)),
      bigSep_first (fun h : Fin 8 => cred (tallyAt (sendCell c (0, h)) () N))]
    isplitr [Hcs]
    · isplitl [Hc0] <;> iassumption
    · iexact Hcs
  iapply (loop_waitS m K c Kt) $$ [HP HC]
  · isplitl [HP] <;> iassumption
  iintro ⟨HS, HC⟩
  iapply Hk
  unfold bodyPost
  isplitl [HC]; · iexact HC
  isplitl [Hz]; · iexact Hz
  isplitl [HD HD3]
  · rw [bigSep_last (fun k : Fin 4 => bigSep Finset.univ fun h : Fin 8 => landD c (k, h))]
    isplitl [HD]; · iexact HD
    iexact HD3
  isplitl [HS]; · iexact HS
  isplitl [HA]; · iexact HA
  isplitl [HIn]; · iexact HIn
  isplitl [H4]; · iexact H4
  iexact H5

end Cert.KernelIdeal.Moe

end
-- ==== Proof.Deal.lean ====
/-
# What the launch deals every device

At launch every semaphore of the exchange becomes a record that all devices share; a device keeps its place at its own
semaphores, the token of every duty it is going to pay (its signal to each partner, and both ends of each of its
transfers), and the credit for what its partners owe it: four signals, and one block per receiving semaphore.
-/
module

public import proofs.«01_k».proof.Proof.Whole

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over the semaphores of a device -/

omit [FloatOps F] in
/-- A family over the transfer semaphores is the sending ones and the receiving ones. -/
theorem bigSep_own (Φ : Bool × Slot → sProp 𝕄) :
    bigSep Finset.univ Φ = iprop((bigSep Finset.univ fun s : Slot => Φ (false, s)) ∗ bigSep Finset.univ fun s : Slot => Φ (true, s)) := by
  rw [bigSep_univ_prod, bigSep_univ_eq_bigSepL [false, true] (by decide) (by decide)]; rfl
omit [FloatOps F] in
/-- A family over all semaphores of a device is the barrier's member and the others. -/
theorem bigSep_cells (Φ : CellIx → sProp 𝕄) :
    bigSep Finset.univ Φ = iprop(Φ none ∗ bigSep Finset.univ fun x : Bool × Slot => Φ (some x)) := by
  rw [bigSep_univ_equiv (Equiv.optionEquivSumPUnit.{0} (Bool × Slot)).symm Φ, bigSep_univ_sum]
  rw [bigSep_univ_eq_bigSepL (I := PUnit) [PUnit.unit] (by decide) (by decide)]
  exact BI.equiv_iff.mp ⟨sep_comm, sep_comm⟩

/-! ## The launch element -/

/-- The kernel's own semaphores: those of the transfers. -/
abbrev osem (x : Bool × Slot) : SemLoc sig := csem (some x)

theorem ownSemFacts : Pipeline.OwnSemFacts cfg0.spec osem := by decide +kernel

def xCells : Finset (GSem nD τ sig) := Finset.univ.map ⟨kcell, kcell_injective⟩

/-- The duties of one device's semaphores: the barrier's by step, and one for each transfer semaphore. -/
abbrev TokIx : Type := Fin 4 ⊕ (Bool × Slot)
abbrev tokOf (x : Dev nD × TokIx) : GSem nD τ sig × ℕ × Fin 4 := match x.2 with
  | .inl k => (barCell x.1, 0, k)
  | .inr y => (kcell (x.1, some y), 0, 0)
theorem tokOf_injective : Function.Injective tokOf := by
  rintro ⟨c, x⟩ ⟨c', x'⟩ h
  rcases x with k | y <;> rcases x' with k' | y'
  · have h1 := kcell_injective (congrArg Prod.fst h)
    have h2 : k = k' := congrArg (fun t : GSem nD τ sig × ℕ × Fin 4 => t.2.2) h
    have h3 : c = c' := (Prod.ext_iff.mp h1).1
    rw [h3, h2]
  · exact absurd (Prod.ext_iff.mp (kcell_injective (congrArg Prod.fst h))).2 (by simp)
  · exact absurd (Prod.ext_iff.mp (kcell_injective (congrArg Prod.fst h))).2 (by simp)
  · have h1 := Prod.ext_iff.mp (kcell_injective (congrArg Prod.fst h))
    rw [show c = c' from h1.1, Option.some.inj h1.2]
def xToks : Finset (GSem nD τ sig × ℕ × Fin 4) := Finset.univ.map ⟨tokOf, tokOf_injective⟩

def u₀ : UU :=
  (initOf (Pipeline.cells cfgs cellOf_inj) (Pipeline.launchToks cfgs cellOf_inj), initOf xCells xToks)

/-- The duty tokens of device `c`'s own semaphores. -/
def toks (c : Dev nD) : sProp 𝕄 :=
  iprop((bigSep Finset.univ fun k : Fin 4 => dutyTok EX (barCell c) 0 k)
    ∗ (bigSep Finset.univ fun s : Slot => dutyTok EX (sendCell c s) 0 0) ∗ bigSep Finset.univ fun s : Slot => dutyTok EX (recvCell c s) 0 0)
/-- The duty tokens device `c` pays with. -/
def payToks (c : Dev nD) : sProp 𝕄 :=
  iprop((bigSep Finset.univ fun k : Fin 4 => dutyTok EX (barCell (peer k c)) 0 k)
    ∗ (bigSep Finset.univ fun s : Slot => dutyTok EX (sendCell c s) 0 0)
    ∗ bigSep Finset.univ fun s : Slot => dutyTok EX (recvCell (peer s.1 c) s) 0 0)

/-- What the launch element deals device `c`. -/
def G (c : Dev nD) : sProp 𝕄 :=
  iprop((bigSep Finset.univ fun x : CellIx => roundState EX (rd (F := F) m) (kcell (c, x)) 0)
    ∗ (bigSep Finset.univ fun x : CellIx => iprop(atPos EX (kcell (c, x)) 0 ∅ 0 ∗ reached EX (kcell (c, x)) 0)) ∗ toks c)
/-- What device `c` alone has of it in the end. -/
def linear (c : Dev nD) : sProp 𝕄 :=
  iprop((bigSep Finset.univ fun x : CellIx => atPos EX (kcell (c, x)) 0 ∅ 0) ∗ payToks c)
def G' (c : Dev nD) : sProp 𝕄 := iprop(∃ K, recs m K ∗ linear c)

theorem fund_x : BI.own (EX (initOf xCells xToks)) ⊢ (|==> bigSep Finset.univ (G (F := F) m) : sProp 𝕄) := by
  have hX (Φ : GSem nD τ sig → sProp 𝕄) : bigSep xCells Φ = bigSep Finset.univ fun c : Dev nD => bigSep Finset.univ fun x : CellIx => Φ (kcell (c, x)) := by
    unfold xCells; rw [bigSep_map, bigSep_univ_prod]; rfl
  have hT : bigSep xToks (fun x => (dutyTok EX x.1 x.2.1 x.2.2 : sProp 𝕄)) = bigSep Finset.univ fun c : Dev nD => toks c := by
    unfold xToks; rw [bigSep_map, bigSep_univ_prod]
    exact bigSep_congr fun c _ => by unfold toks; rw [bigSep_univ_sum, bigSep_own]; rfl
  iintro HX
  imod (Rounds.fund EX (rd (F := F) m) xCells xToks) $$ HX with ⟨Hst, Hr, Hat, Htok⟩
  imodintro
  ihave Hst := (Entails.of_eq (hX fun g => roundState EX (rd (F := F) m) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- The barrier's semaphore is the only one not the kernel's own. -/
theorem unscopedSems0_eq (c : Dev nD) :
    (unscopedSems0 (Ix := Unit) (Name := ℕ) (U := UU) (Lvl := ℕ) (Val := Elt F) (τ := τ) c : sProp 𝕄) = semVal (barCell c) 0 := by
  unfold unscopedSems0
  rw [bigSep_eq_bigSepL_of_eq [SemLoc.reg barSem] (by decide +kernel) (by decide)]; rfl

omit [FloatOps F] in
theorem sems0_eq (c : Dev nD) :
    iprop(Pipeline.ownSems0 (Ix := Unit) (Name := ℕ) (U := UU) (Lvl := ℕ) (Val := Elt F) (τ := τ) osem c
        ∗ unscopedSems0 (Ix := Unit) (Name := ℕ) (U := UU) (Lvl := ℕ) (Val := Elt F) (τ := τ) c)
      ⊢ (bigSep Finset.univ fun x : CellIx => semVal (kcell (c, x)) 0 : sProp 𝕄) := by
  rw [unscopedSems0_eq, bigSep_cells]
  exact sep_comm

theorem core_alloc (c : Dev nD) :
    iprop(Pipeline.ownSems0 (Ix := Unit) (Name := ℕ) (U := UU) (Lvl := ℕ) (Val := Elt F) (τ := τ) osem c
        ∗ unscopedSems0 (Ix := Unit) (Name := ℕ) (U := UU) (Lvl := ℕ) (Val := Elt F) (τ := τ) c ∗ G m c)
      ⊢ |={Set.univ}=> iprop((bigSep Finset.univ fun x : CellIx => iprop(∃ κ : ℕ, cellInv EX (rd (F := F) m) κ (kcell (c, x))))
          ∗ (bigSep Finset.univ fun x : CellIx => iprop(atPos EX (kcell (c, x)) 0 ∅ 0 ∗ reached EX (kcell (c, x)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun x : CellIx => semVal (kcell (c, x)) 0) ∗ bigSep Finset.univ fun x : CellIx => roundState EX (rd (F := F) m) (kcell (c, x)) 0)
      ⊢ (|={Set.univ}=> bigSep Finset.univ fun x : CellIx => iprop(∃ κ : ℕ, cellInv EX (rd (F := F) m) κ (kcell (c, x))) : sProp 𝕄) from by
        rw [← bigSep_sep']
        exact (bigSep_mono fun x _ => (Rounds.body_intro EX (rd (F := F) m) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens go to the partners: a barrier's token of step `k`, and a receiving semaphore's of step `k`, to the
    device that differs in bit `k`. -/
theorem toks_around : (bigSep Finset.univ fun c : Dev nD => (toks c : sProp 𝕄)) ⊢ bigSep Finset.univ fun c : Dev nD => payToks c := by
  have hB : (bigSep Finset.univ fun c : Dev nD => bigSep Finset.univ fun k : Fin 4 => (dutyTok EX (barCell c) 0 k : sProp 𝕄))
      = bigSep Finset.univ fun c : Dev nD => bigSep Finset.univ fun k : Fin 4 => dutyTok EX (barCell (peer k c)) 0 k := by
    rw [BI.bigSep_univ_comm, BI.bigSep_univ_comm (fun (c : Dev nD) (k : Fin 4) => (dutyTok EX (barCell (peer k c)) 0 k : sProp 𝕄))]
    exact bigSep_congr fun k _ => bigSep_univ_equiv (swap k) _
  have hR : (bigSep Finset.univ fun c : Dev nD => bigSep Finset.univ fun s : Slot => (dutyTok EX (recvCell c s) 0 0 : sProp 𝕄))
      = bigSep Finset.univ fun c : Dev nD => bigSep Finset.univ fun s : Slot => dutyTok EX (recvCell (peer s.1 c) s) 0 0 := by
    rw [BI.bigSep_univ_comm, BI.bigSep_univ_comm (fun (c : Dev nD) (s : Slot) => (dutyTok EX (recvCell (peer s.1 c) s) 0 0 : sProp 𝕄))]
    exact bigSep_congr fun s _ => bigSep_univ_equiv (swap s.1) _
  unfold toks payToks
  rw [bigSep_sep', bigSep_sep', bigSep_sep', bigSep_sep', hB, hR]

omit [FloatOps F] in
theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : CellIx => iprop(∃ κ : ℕ, cellInv EX (rd (F := F) m) κ (kcell (c, x))))
          ∗ (bigSep Finset.univ fun x : CellIx => iprop(atPos EX (kcell (c, x)) 0 ∅ 0 ∗ reached EX (kcell (c, x)) 0)) ∗ toks c) : sProp 𝕄)
      ⊢ bigSep Finset.univ (G' (F := F) m) := by
  rw [bigSep_sep', bigSep_sep', ← bigSep_univ_prod (fun cx : Dev nD × CellIx => iprop(∃ κ : ℕ, cellInv EX (rd (F := F) m) κ (kcell cx))),
    bigSep_congr (s := Finset.univ) (fun (c : Dev nD) _ => bigSep_sep' Finset.univ (fun x : CellIx => (atPos EX (kcell (c, x)) 0 ∅ 0 : sProp 𝕄)) (fun x => reached EX (kcell (c, x)) 0)),
    bigSep_sep', ← bigSep_univ_prod (fun cx : Dev nD × CellIx => (reached EX (kcell cx) 0 : sProp 𝕄))]
  iintro ⟨HI, ⟨Hat, HR⟩, Htok⟩
  ihave HK := (BI.bigSep_exists_pi Finset.univ (fun (cx : Dev nD × CellIx) (κ : ℕ) => (cellInv EX (rd (F := F) m) κ (kcell cx) : sProp 𝕄))) $$ HI
  icases HK with ⟨%K, HI⟩
  ihave Htk := (toks_around (F := F)) $$ Htok
  have e : ∀ c ∈ (Finset.univ : Finset (Dev nD)), iprop(recs m K ∗ linear c) ⊢ G' (F := F) m c := by
    intro c _
    unfold G'
    iintro H
    iexists K; iexact H
  iapply (with_shared (R := recs (F := F) m K) e)
  isplitl [HI HR]
  · unfold recs; rw [bigSep_sep']
    isplitl [HI] <;> iassumption
  · unfold linear; rw [bigSep_sep']
    isplitl [Hat] <;> iassumption

/-- All devices' semaphores become records at once. -/
theorem glob : (bigSep Finset.univ fun c => iprop(Pipeline.ownSems0 (Ix := Unit) (Name := ℕ) (U := UU) (Lvl := ℕ) (Val := Elt F) (τ := τ) osem c
        ∗ unscopedSems0 (Ix := Unit) (Name := ℕ) (U := UU) (Lvl := ℕ) (Val := Elt F) (τ := τ) c ∗ G m c) : sProp 𝕄)
    ⊢ |={Set.univ}=> bigSep Finset.univ (G' (F := F) m) :=
  ((bigSep_mono fun c _ => core_alloc m c).trans (bigSep_fupd _ _)).trans (BI.fupd_mono (regroup m))

/-! ## The credit -/

theorem kcell_eq_iff {a b : Dev nD} {x y : CellIx} : kcell (a, x) = kcell (b, y) ↔ a = b ∧ x = y :=
  ⟨fun h => Prod.ext_iff.mp (kcell_injective h), fun h => by rw [h.1, h.2]⟩

/-- What the devices together owe at one index of a sum of tallies, each to one device's semaphore. -/
theorem sum_tally {I : Type} [DecidableEq I] (S : Finset I) (σ : I → Dev nD ≃ Dev nD) (x : I → CellIx) (n : ℕ) (c : Dev nD) (y : CellIx) :
    (∑ d : Dev nD, (∑ i ∈ S, (tallyAt (kcell (σ i d, x i)) () n : CellTallies nD τ sig Unit)) (kcell (c, y)) ())
      = ∑ i ∈ S, if x i = y then n else 0 := by
  simp only [Finset.sum_apply, Finsupp.finset_sum_apply]
  rw [Finset.sum_comm]
  refine Finset.sum_congr rfl fun i _ => ?_
  rw [Finset.sum_congr rfl fun d _ => tallyAt_apply _ _ _ _ _]
  rw [← (σ i).symm.sum_comp]
  simp only [Equiv.apply_symm_apply, kcell_eq_iff, and_true]
  by_cases h : x i = y
  · subst h; simp
  · simp [h, Ne.symm h]

/-- The launch hands out, at each semaphore, what the devices owe there. -/
theorem owed_sum (c : Dev nD) (y : CellIx) : (∑ d : Dev nD, owedB 0 d (kcell (c, y)) ())
    = (∑ s : Slot, if some (true, s) = y then N else 0) + ∑ k : Fin 4, if none = y then 1 else 0 := by
  unfold owedB owedX
  simp only [Pi.add_apply, Finsupp.add_apply]
  rw [Finset.sum_add_distrib, Finset.filter_true_of_mem (fun _ _ => Nat.zero_le _), Finset.filter_true_of_mem (fun _ _ => Nat.zero_le _)]
  exact congrArg₂ _ (sum_tally Finset.univ (fun s : Slot => swap s.1) (fun s => some (true, s)) N c y)
    (sum_tally Finset.univ swap (fun _ => none) 1 c y)

theorem launch_bar (c : Dev nD) :
    tallyOn (barCell c) (launchCredit (Pipeline.owing (owedB 0)) 0 (barCell c)) = (tallyAt (barCell c) () 4 : CellTallies nD τ sig Unit) := by
  unfold tallyAt; refine congrArg _ (Finsupp.ext fun u => ?_); cases u
  rw [Pipeline.launchCredit_owing, Finsupp.single_eq_same, owed_sum]
  simp
theorem launch_recv (c : Dev nD) (s : Slot) :
    tallyOn (recvCell c s) (launchCredit (Pipeline.owing (owedB 0)) 0 (recvCell c s)) = (tallyAt (recvCell c s) () N : CellTallies nD τ sig Unit) := by
  unfold tallyAt; refine congrArg _ (Finsupp.ext fun u => ?_); cases u
  rw [Pipeline.launchCredit_owing, Finsupp.single_eq_same, owed_sum]
  have h : ∀ t : Slot, ((some (true, t) : CellIx) = some (true, s)) ↔ t = s := fun t => by simp
  simp only [h, Finset.sum_ite_eq', Finset.mem_univ, if_true, reduceCtorEq, if_false, Finset.sum_const_zero, Nat.add_zero]

omit [FloatOps F] in
theorem creds (c : Dev nD) :
    (Pipeline.launchCred (owedB 0) c : sProp 𝕄)
      ⊢ iprop(cred (tallyAt (barCell c) () 4) ∗ bigSep Finset.univ fun s : Slot => cred (tallyAt (recvCell c s) () N)) := by
  unfold Pipeline.launchCred
  refine (bigSep_subset (Finset.subset_univ ((Finset.univ : Finset CellIx).map ⟨csem, csem_injective⟩))).trans ?_
  rw [bigSep_map, bigSep_cells, bigSep_own]
  refine sep_mono (Entails.of_eq (congrArg cred (launch_bar c))) (sep_elim_right.trans ?_)
  exact Entails.of_eq (bigSep_congr fun s _ => congrArg cred (launch_recv c s))

end Cert.KernelIdeal.Moe

end
-- ==== Proof.Launch.lean ====
/-
# The run of the whole program

Every device's kernel meets its obligation, so every fair run of the program terminates; in its final states each
device's result array holds what `outAt` says, the operands hold what they held, and every semaphore is at zero.
-/
module

public import proofs.«01_k».proof.Proof.Deal
public import Idealize.ShloMosaic.Lib.Pipeline.CollectiveSegs

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## Before and after the kernel -/

/-- What device `c` starts from, beside its buffers. -/
def start (c : Dev nD) : sProp 𝕄 :=
  iprop(G' m c ∗ (cred (tallyAt (barCell c) () 4) ∗ bigSep Finset.univ fun s : Slot => cred (tallyAt (recvCell c s) () N)) ∗ levAts L lv)
/-- The three buffers of the kernel itself, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ ∃ f : Buf (Elt F) ((c : Thread nD τ).loc cc0_scratch2), ((c : Thread nD τ).loc cc0_scratch2) ↦{fullShare} f)
def Φ₀ (c : Dev nD) : sProp 𝕄 := iprop(start m c ∗ scratch c)
def Φ₁ (c : Dev nD) : sProp 𝕄 :=
  iprop(semVal (barCell c) 0 ∗ ((bigSep Finset.univ fun s : Slot => semVal (sendCell c s) 0) ∗ bigSep Finset.univ fun s : Slot => semVal (recvCell c s) 0)
    ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stX m c
    | ⟨1, _⟩ => stR m c
    | ⟨2, _⟩ => stI m c
    | ⟨3, _⟩ => stW m c
    | ⟨4, _⟩ => stU m c
    | ⟨5, _⟩ => outAt m c
  Φ t := match t with
    | ⟨0, _⟩ => Φ₀ m c
    | ⟨_ + 1, _⟩ => Φ₁ c
  q _ := fullShare
  owed t := match t with
    | ⟨0, _⟩ => owedB 0 c
    | ⟨_ + 1, _⟩ => 0

omit [FloatOps F] in
theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body's obligation -/

omit [FloatOps F] in
/-- A family over the transfers, cut by step. -/
theorem bySteps (P : Slot → sProp 𝕄) :
    (bigSep Finset.univ P) = bigSep Finset.univ fun k : Fin 4 => bigSep Finset.univ fun h : Fin 8 => P (k, h) :=
  bigSep_univ_prod P

/-- What the kernel holds at its start is what the body's run needs. -/
theorem pre_intro (K : Dev nD × CellIx → ℕ) (c : Dev nD) :
    iprop((recs m K ∗ linear c) ∗ ((cred (tallyAt (barCell c) () 4) ∗ bigSep Finset.univ fun s : Slot => cred (tallyAt (recvCell c s) () N)) ∗ levAts L lv)
        ∗ scratch c ∗ (∃ W, owes (c : Thread nD τ) (owedB 0 c) W)
        ∗ (stg c cc0_stg0_0 (stX m c) ∗ stg c cc0_stg1_0 (stR m c) ∗ stg c cc0_stg2_0 (stI m c) ∗ stg c cc0_stg3_0 (stW m c))
        ∗ stg c cc0_stg4_0 (stU m c) ∗ ∃ o, stg c cc0_stg5_0 o)
      ⊢ bodyPre m K c := by
  have hat : (bigSep Finset.univ fun x : CellIx => (atPos EX (kcell (c, x)) 0 ∅ 0 : sProp 𝕄))
      = iprop(atPos EX (barCell c) 0 ∅ 0 ∗ (bigSep Finset.univ fun s : Slot => atPos EX (sendCell c s) 0 ∅ 0)
        ∗ bigSep Finset.univ fun s : Slot => atPos EX (recvCell c s) 0 ∅ 0) := by rw [bigSep_cells, bigSep_own]
  have hs : (bigSep Finset.univ fun s : Slot => sndR (F := F) c s) = iprop((bigSep Finset.univ fun s : Slot => sendAny c s)
      ∗ (bigSep Finset.univ fun s : Slot => dutyTok EX (sendCell c s) 0 0) ∗ bigSep Finset.univ fun s : Slot => dutyTok EX (recvCell (peer s.1 c) s) 0 0) := by
    rw [← bigSep_sep', ← bigSep_sep']; exact bigSep_congr fun s _ => by unfold sndR; rfl
  have hr : (bigSep Finset.univ fun s : Slot => rcvR (F := F) c s) = iprop((bigSep Finset.univ fun s : Slot => cred (tallyAt (recvCell c s) () N))
      ∗ bigSep Finset.univ fun s : Slot => atPos EX (recvCell c s) 0 ∅ 0) := by
    rw [← bigSep_sep']; exact bigSep_congr fun s _ => by unfold rcvR; rfl
  unfold linear payToks scratch bodyPre ctl
  rw [hat, ← bySteps (fun s => sndR c s), ← bySteps (fun s => rcvR c s), ← bySteps (fun s => (atPos EX (sendCell c s) 0 ∅ 0 : sProp 𝕄))]
  iintro ⟨⟨Hrec, ⟨HaB, HaS, HaR⟩, HtB, HtS, HtR⟩, ⟨⟨HcB, HcR⟩, Hlev⟩, ⟨⟨%f0, H0⟩, ⟨%f1, H1⟩, ⟨%f2, H2⟩⟩, Ho, Hin, H4, H5⟩
  isplitl [Hrec Hlev Ho]
  · isplitl [Hrec]; · iexact Hrec
    isplitl [Hlev]; · iexact Hlev
    iexact Ho
  isplitl [HcB HaB]
  · isplitl [HcB] <;> iassumption
  isplitl [HtB H2]
  · rw [bigSep_sep']
    isplitl [HtB]; · iexact HtB
    ihave H2 := (land_cut c f2) $$ H2
    ihave H2 := (Entails.of_eq (bySteps (F := F) fun s => landAny c s)) $$ H2
    iexact H2
  isplitl [H0]
  · ihave H0 := (sum_cut c f0) $$ H0
    iexact H0
  isplitl [H1 HtS HtR]
  · ihave H1 := (send_cut c f1) $$ H1
    rw [hs]
    isplitl [H1]; · iexact H1
    isplitl [HtS] <;> iassumption
  isplitl [HcR HaR]
  · rw [hr]
    isplitl [HcR] <;> iassumption
  isplitl [HaS]; · iexact HaS
  isplitl [Hin]; · iexact Hin
  isplitl [H4] <;> iassumption

/-- What the body's run ends in is what the kernel must hold at its end. -/
theorem post_elim (K : Dev nD × CellIx → ℕ) (c : Dev nD) :
    bodyPost m K c ⊢ iprop(Φ₁ c ∗ (∃ W, owes (c : Thread nD τ) (0 : CellTallies nD τ sig Unit) W)
        ∗ stg c cc0_stg0_0 (stX m c) ∗ stg c cc0_stg1_0 (stR m c) ∗ stg c cc0_stg2_0 (stI m c) ∗ stg c cc0_stg3_0 (stW m c)
        ∗ stg c cc0_stg4_0 (stU m c) ∗ stg c cc0_stg5_0 (outAt m c)) := by
  have hl : (bigSep Finset.univ fun s : Slot => landD (F := F) c s)
      = iprop((bigSep Finset.univ fun s : Slot => landAny c s) ∗ bigSep Finset.univ fun s : Slot => semVal (recvCell c s) 0) := by
    rw [← bigSep_sep']; exact bigSep_congr fun s _ => by unfold landD; rfl
  have hs : (bigSep Finset.univ fun s : Slot => sendD (F := F) c s)
      = iprop((bigSep Finset.univ fun s : Slot => sendAny c s) ∗ bigSep Finset.univ fun s : Slot => semVal (sendCell c s) 0) := by
    rw [← bigSep_sep']; exact bigSep_congr fun s _ => by unfold sendD; rfl
  unfold bodyPost ctl Φ₁ scratch
  rw [← bySteps (fun s => landD (F := F) c s), ← bySteps (fun s => sendD (F := F) c s), hl, hs]
  iintro ⟨⟨-, -, Ho⟩, HzB, ⟨H2, HzR⟩, ⟨H1, HzS⟩, ⟨%f0, -, H0⟩, ⟨Hx, Hr, Hi, Hw⟩, H4, H5⟩
  isplitl [HzB HzR HzS H0 H1 H2]
  · isplitl [HzB]; · iexact HzB
    isplitl [HzR HzS]
    · isplitl [HzS] <;> iassumption
    isplitl [H0]; · iexists f0; iexact H0
    isplitl [H1]
    · ihave H1 := (send_join (F := F) c) $$ H1
      iexact H1
    · ihave H2 := (land_join (F := F) c) $$ H2
      iexact H2
  isplitl [Ho]; · iexact Ho
  isplitl [Hx]; · iexact Hx
  isplitl [Hr]; · iexact Hr
  isplitl [Hi]; · iexact Hi
  isplitl [Hw]; · iexact Hw
  isplitl [H4] <;> iassumption

def obPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def obPost (c : Dev nD) : sProp 𝕄 :=
  iprop(Φ₁ c ∗ (dats m ρ 0 c).owesAt () t0_0.succ
    ∗ stg c cc0_stg0_0 (stX m c) ∗ stg c cc0_stg1_0 (stR m c) ∗ stg c cc0_stg2_0 (stI m c) ∗ stg c cc0_stg3_0 (stW m c)
    ∗ stg c cc0_stg4_0 (stU m c) ∗ stg c cc0_stg5_0 (outAt m c))

theorem before_0 (c : Dev nD) (d) : (dats m ρ 0 c).before (0 : Fin 6) t0_0 d = stX m c := by
  unfold Dat.before; rw [if_pos (fetch0_0 t0_0)]; rfl
theorem before_1 (c : Dev nD) (d) : (dats m ρ 0 c).before (1 : Fin 6) t0_0 d = stR m c := by
  unfold Dat.before; rw [if_pos (fetch0_1 t0_0)]; rfl
theorem before_2 (c : Dev nD) (d) : (dats m ρ 0 c).before (2 : Fin 6) t0_0 d = stI m c := by
  unfold Dat.before; rw [if_pos (fetch0_2 t0_0)]; rfl
theorem before_3 (c : Dev nD) (d) : (dats m ρ 0 c).before (3 : Fin 6) t0_0 d = stW m c := by
  unfold Dat.before; rw [if_pos (fetch0_3 t0_0)]; rfl
theorem before_4 (c : Dev nD) (d) : (dats m ρ 0 c).before (4 : Fin 6) t0_0 d = stU m c := by
  unfold Dat.before; rw [if_pos (fetch0_4 t0_0)]; rfl

theorem ob_run (c : Dev nD) : obPre m ρ c ⊢ WP c (prog (F := F)) (fun _ => obPost m ρ c) := by
  unfold obPre obPost Φ₀ start G' Dat.owesAt Pipeline.owesWithin
  simp only [before_0, before_1, before_2, before_3, before_4]
  iintro ⟨⟨⟨⟨%K, HG⟩, Hc⟩, Hsc⟩, ⟨%W, -, Ho⟩, ⟨%d0, H0⟩, ⟨%d1, H1⟩, ⟨%d2, H2⟩, ⟨%d3, H3⟩, ⟨%d4, H4⟩, ⟨%d5, H5⟩⟩
  iapply (run_prog m K c (fun _ => _)) $$ [HG Hc Hsc Ho H0 H1 H2 H3 H4 H5]
  · iapply (pre_intro m K c)
    isplitl [HG]; · iexact HG
    isplitl [Hc]; · iexact Hc
    isplitl [Hsc]; · iexact Hsc
    isplitl [Ho]; · iexists W; iexact Ho
    isplitl [H0 H1 H2 H3]
    · isplitl [H0]; · iexact H0
      isplitl [H1]; · iexact H1
      isplitl [H2] <;> iassumption
    isplitl [H4]; · iexact H4
    iexists ((dats m ρ 0 c).before (5 : Fin 6) t0_0 d5); iexact H5
  iintro H
  ihave H := (post_elim m K c) $$ H
  icases H with ⟨HΦ, ⟨%W', Ho⟩, Hst⟩
  isplitl [HΦ]; · iexact HΦ
  isplitl [Ho]
  · iexists W'; isplitr; · ipureintro; exact fun _ _ => Or.inl trivial
    iexact Ho
  iexact Hst

theorem body_obligation (c : Dev nD) : BodyObligation (dats (F := F) m ρ 0 c) (defs₀ (F := F)) 𝒱₀ () Set.univ := fun t => by
  rw [fin_N0 t]
  rw [bigSep_W, bigSep_W]
  simp only [owns_whole_eq]
  show obPre m ρ c ⊢ WP c (cc0_body (F := F) bX (Memref.isWhole_whole _) bR (Memref.isWhole_whole _) bI (Memref.isWhole_whole _)
    bW (Memref.isWhole_whole _) bU (Memref.isWhole_whole _) bO (Memref.isWhole_whole _) bA (Memref.isWhole_whole _)
    bS (Memref.isWhole_whole _) bC (Memref.isWhole_whole _) cc0_scratch3 cc0_scratch4) (fun _ => obPost m ρ c)
  rw [body_eq]
  exact ob_run m ρ c

/-! ## The conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (owedB 0) c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  have ho : (Pipeline.ownSems0 (Ix := Unit) (Name := ℕ) (U := UU) (Lvl := ℕ) (Val := Elt F) (τ := τ) osem c : sProp 𝕄)
      = iprop((bigSep Finset.univ fun s : Slot => semVal (sendCell c s) 0) ∗ bigSep Finset.univ fun s : Slot => semVal (recvCell c s) 0) := by
    unfold Pipeline.ownSems0; rw [bigSep_own]
  rw [show (dats m ρ 0 c).Φ (Fin.last cfg0.N) = Φ₁ c from rfl, scopedRest0_eq, unscopedSems0_eq, ho]
  unfold Φ₁ scratch
  exact .rfl

theorem waits (c : Dev nD) : (levAts L lv : sProp 𝕄) ⊢ Pipeline.cellsWaits cfgs (dats (F := F) m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

/-- Window `w`'s array on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every weakly fair execution on the sixteen devices terminates, and in every
    final state each array is at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owedB 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array holds after the run what it held. -/
theorem finalA_in (c : Dev nD) (w : Fin cfg0.W) (h : (cfg0.win w).isOut = false) :
    finalA m ρ c w = m ((cfg0.win w).arr.view.loc (c : Thread nD τ)) :=
  (dats (F := F) m ρ 0 c).arrAt_in w h _

end Cert.KernelIdeal.Moe

end
-- ==== Proof.Frames.lean ====
/-
# The three frames

Both printings of the kernel have one text, so the run proved in `Launch.lean` for any float values gives both of
their frames; the reference declares no semaphore, so its frame is its run.
-/
module

public import proofs.«01_k».proof.Proof.Launch
public import proofs.«01_k».proof.Defs
public import proofs.«01_k».proof.Proof.Gen.Kernel
public import proofs.«01_k».proof.Proof.Gen.ReferenceIdeal.Run
public import Idealize.ShloMosaic.Lib.Quiescent

@[expose] public section

set_option maxRecDepth 16384

noncomputable section

namespace Cert.KernelIdeal.Moe

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- What the run leaves in the operands: what they held. -/
theorem args_kept (r : Unit × MemSt nD τ sig (Elt F)) (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c 0).trans (finalA_in m ρ c 0 rfl), (h c 1).trans (finalA_in m ρ c 1 rfl), (h c 2).trans (finalA_in m ρ c 2 rfl),
    (h c 3).trans (finalA_in m ρ c 3 rfl), (h c 4).trans (finalA_in m ρ c 4 rfl)⟩

/-- The frame, for any float values. -/
theorem run_frame :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨args_kept m ρ r h.1, h.2⟩) (run_main m ρ)

end Cert.KernelIdeal.Moe

namespace Cert.Proof

open Idealize.ShloMosaic Idealize.SL.Sem

theorem frame_kernelIdeal : Cert.quiescent_KernelIdeal (hKernelIdeal := Cert.KernelIdeal.Gen.facts) := fun m ρ _ =>
  Cert.KernelIdeal.Moe.run_frame (F := Ideal) m ρ

/-- The two printings' table of kernel bodies: the same body under the one label. -/
theorem bodies_eq : Cert.Kernel.defs₀ (F := Bits) = Cert.KernelIdeal.defs₀ (F := Bits) := by
  unfold Cert.Kernel.defs₀ Cert.KernelIdeal.defs₀
  refine congrArg Defs.onTc ?_
  funext l a
  revert a
  match l with
  | 0 => intro a; rfl

theorem defs_eq : Cert.Kernel.defs (F := Bits) = Cert.KernelIdeal.defs (F := Bits) :=
  congrArg (Pipeline.defs Cert.KernelIdeal.pcfgs) bodies_eq

theorem frame_kernel : Cert.quiescent_Kernel (hKernel := Cert.Kernel.Gen.facts) := fun m ρ _ => by
  have h := Cert.KernelIdeal.Moe.run_frame (F := Bits) m ρ
  rw [← defs_eq] at h
  exact h

theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems rfl _⟩) (Cert.ReferenceIdeal.Value.run (F := Ideal) m ρ)

end Cert.Proof

end
-- ==== Proof.Arrays.lean ====
/-
# The arrays the kernel reads and writes

Every operand is staged whole and the result is written back whole, at the pipeline's one point. So what a device reads
of an operand is the operand, and what its result array ends with is the output block.
-/
module

public import proofs.«01_k».proof.Proof.Launch
public import Idealize.ShloMosaic.Lib.Pointwise

@[expose] public section

set_option maxRecDepth 16384

noncomputable section

namespace Cert.KernelIdeal.Moe

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg) (c : Dev nD)

/-- A block index of zero: the block's elements are the array's own. -/
theorem at_zero (n s : ℕ) (h : n = 0) (x : ℕ) : n * s + 1 * x = x := by subst h; omega

theorem stX_eq : stX m c = m ((c : Thread nD τ).loc main_arg0) := by
  funext i
  refine congrArg (m ((c : Thread nD τ).loc main_arg0)) (funext fun a => Fin.ext ?_)
  match a with
  | ⟨0, _⟩ => exact at_zero _ _ rfl _
  | ⟨1, _⟩ => exact at_zero _ _ rfl _
theorem stR_eq : stR m c = m ((c : Thread nD τ).loc main_arg1) := by
  funext i
  refine congrArg (m ((c : Thread nD τ).loc main_arg1)) (funext fun a => Fin.ext ?_)
  match a with
  | ⟨0, _⟩ => exact at_zero _ _ rfl _
  | ⟨1, _⟩ => exact at_zero _ _ rfl _
theorem stI_eq : stI m c = m ((c : Thread nD τ).loc main_arg2) := by
  funext i
  refine congrArg (m ((c : Thread nD τ).loc main_arg2)) (funext fun a => Fin.ext ?_)
  match a with
  | ⟨0, _⟩ => exact at_zero _ _ rfl _
  | ⟨1, _⟩ => exact at_zero _ _ rfl _
theorem stW_eq : stW m c = m ((c : Thread nD τ).loc main_arg3) := by
  funext i
  refine congrArg (m ((c : Thread nD τ).loc main_arg3)) (funext fun a => Fin.ext ?_)
  match a with
  | ⟨0, _⟩ => exact at_zero _ _ rfl _
  | ⟨1, _⟩ => exact at_zero _ _ rfl _
  | ⟨2, _⟩ => exact at_zero _ _ rfl _
theorem stU_eq : stU m c = m ((c : Thread nD τ).loc main_arg4) := by
  funext i
  refine congrArg (m ((c : Thread nD τ).loc main_arg4)) (funext fun a => Fin.ext ?_)
  match a with
  | ⟨0, _⟩ => exact at_zero _ _ rfl _
  | ⟨1, _⟩ => exact at_zero _ _ rfl _

/-- What the device reads of them. -/
theorem xb_eq : (insAt m c).xb = m ((c : Thread nD τ).loc main_arg0) :=
  (Memref.readAt_unit_zero (Elt F) cc0_stg0_0 zeros2 _ _).trans (stX_eq m c)
theorem rw_eq : (insAt m c).rw = m ((c : Thread nD τ).loc main_arg1) :=
  (Memref.readAt_unit_zero (Elt F) cc0_stg1_0 zeros2 _ _).trans (stR_eq m c)
theorem ix_eq : (insAt m c).ix = m ((c : Thread nD τ).loc main_arg2) :=
  (Memref.readAt_unit_zero (Elt F) cc0_stg2_0 zeros2 _ _).trans (stI_eq m c)
theorem u_eq : bU.view.readAt (Elt F) rU.toLoadRect (stU m c) = m ((c : Thread nD τ).loc main_arg4) :=
  (Memref.readAt_unit_zero (Elt F) cc0_stg4_0 zeros2 _ _).trans (stU_eq m c)
/-- The two experts in the device's block. -/
theorem w0_apply (d : Fin 128) (f : Fin 256) :
    (insAt m c).w0 (ix3 0 d f) = m ((c : Thread nD τ).loc main_arg3) (ix3 0 d f) := by
  rw [← stW_eq m c]
  refine congrArg (stW m c) (funext fun a => Fin.ext ?_)
  match a with
  | ⟨0, _⟩ => rfl
  | ⟨1, _⟩ => show 0 + 1 * d.val = d.val; omega
  | ⟨2, _⟩ => show 0 + 1 * f.val = f.val; omega
theorem w1_apply (d : Fin 128) (f : Fin 256) :
    (insAt m c).w1 (ix3 0 d f) = m ((c : Thread nD τ).loc main_arg3) (ix3 1 d f) := by
  rw [← stW_eq m c]
  refine congrArg (stW m c) (funext fun a => Fin.ext ?_)
  match a with
  | ⟨0, _⟩ => rfl
  | ⟨1, _⟩ => show 0 + 1 * d.val = d.val; omega
  | ⟨2, _⟩ => show 0 + 1 * f.val = f.val; omega

/-- What the one point writes back is the output block. -/
theorem flushed_eq (G : (cc0_stg5_0 : Ref sig .tc).ty.Contents (Elt F)) (hG : outAt m c = G) (t : Fin cfg0.N) :
    (dats m ρ 0 c).flushed 5 t = ((cfg0.win 5).blk t).view.read (Elt F) G := by
  obtain rfl := fin_N0 t
  have ha : (dats m ρ 0 c).after 5 t0_0 = G := hG
  unfold Pipeline.Dat.flushed
  rw [ha]
  funext i
  refine congrArg G (funext fun a => Fin.ext ?_)
  match a with
  | ⟨0, _⟩ => exact (at_zero _ _ rfl _).symm
  | ⟨1, _⟩ => exact (at_zero _ _ rfl _).symm

theorem cover (t : Fin cfg0.N) (i : S256x256.Idx) : i ∈ ((cfg0.win 5).blk t).view.set := by
  obtain rfl := fin_N0 t
  show i ∈ ((View.whole main_v1).slice (win0_5.rect t0_0)).set
  rw [View.set_slice_whole, Rect.mem_set_unit]
  intro a
  match a with
  | ⟨0, _⟩ => exact ⟨Nat.zero_le _, (i 0).isLt⟩
  | ⟨1, _⟩ => exact ⟨Nat.zero_le _, (i 1).isLt⟩

/-- The result array ends at the output block. -/
theorem finalA_out : finalA m ρ c 5 = outAt m c :=
  (dats m ρ 0 c).arrAt_eq_of_cover 5 (outAt m c) (fun t _ => flushed_eq m ρ c _ rfl t)
    fun i => ⟨t0_0, flush0_5 _, cover _ i⟩

end Cert.KernelIdeal.Moe

end
-- ==== Proof.KernelValue.lean ====
/-
# What the kernel computes, element by element

Over the extended reals: a token's probability of its expert, one expert's contribution to a row, a device's part.
-/
module

public import proofs.«01_k».proof.Proof.Program
public import Idealize.ShloMosaic.Lib.Pointwise
public import Idealize.ShloMosaic.Lib.KernelVsHost

@[expose] public section

set_option maxRecDepth 16384

noncomputable section

namespace Cert.KernelIdeal.Moe

open Cert.KernelIdeal Cert.KernelIdeal.Gen
open Idealize.ShloMosaic
open Idealize.ShloMosaic.TcCoe

theorem select_eq {α : Type} {w : ℕ} (a b : BitVec w) (x y : α) :
    Scalar.select (IntOp.cmpi .eq a b) x y = if a = b then x else y := by
  show Scalar.select (BitVec.ofBool (a == b)) x y = _
  rw [Scalar.select_ofBool]
  by_cases h : a = b <;> simp [h]

/-- Row `r` of block `h`, in the whole array. -/
def row (h : Fin 8) (r : Fin 32) : Fin 256 := ⟨32 * h.val + r.val, by omega⟩

theorem tokV_apply (pr : FVec Ideal S256x32 .f32) (ix : Vec Ideal S256x1 .i32) (i : Fin 256) :
    tokV pr ix (ix2 i 0) = ∑ e : Fin 32, if (ix (ix2 i 0) : BitVec 32) = BitVec.ofNat 32 e.val then pr (ix2 i e) else (0 : EReal) := by
  pointwise [tokV]
  exact Finset.sum_congr rfl fun e _ => select_eq _ _ _ _

theorem coefV_apply (tok : FVec Ideal S256x1 .f32) (ix : Vec Ideal S256x1 .i32) (e : BitVec 32) (i : Fin 256) :
    coefV tok ix e (ix2 i 0) = if (ix (ix2 i 0) : BitVec 32) = e then tok (ix2 i 0) else (0 : EReal) := by
  pointwise [coefV]
  exact select_eq _ _ _ _

theorem contribV_apply (xb : Vec Ideal S256x128 .bf16) (w : Vec Ideal S1x128x256 .bf16) (cf : FVec Ideal S256x1 .f32)
    (h : Fin 8) (r : Fin 32) (f : Fin 256) :
    contribV xb w cf h (ix2 r f) = cf (ix2 (row h r) 0) * ∑ d : Fin 128, xb (ix2 (row h r) d) * w (ix3 0 d f) := by
  pointwise [contribV, row]

theorem sharedV_apply (xb : Vec Ideal S256x128 .bf16) (u : Vec Ideal S128x256 .bf16) (i f : Fin 256) :
    sharedV xb u (ix2 i f) = ∑ d : Fin 128, xb (ix2 i d) * u (ix2 d f) := by
  pointwise [sharedV]

theorem mergeV_pack (a b : FVec Ideal S32x256 .f32) : mergeV a (packV b) = fun j => a j + b j := by
  funext j
  pointwise [mergeV, packV]

end Cert.KernelIdeal.Moe

end
-- ==== Proof.Sum.lean ====
/-
# The sum over the devices

The four exchange steps add up every device's part once, and of the thirty-two experts' contributions in that sum the
one the token is routed to remains.
-/
module

public import proofs.«01_k».proof.Proof.Protocol
public import proofs.«01_k».proof.Proof.KernelValue

@[expose] public section

set_option maxRecDepth 16384

noncomputable section

namespace Cert.KernelIdeal.Moe

open Cert.KernelIdeal Cert.KernelIdeal.Gen
open Idealize.ShloMosaic
open Idealize.ShloMosaic.TcCoe

/-- The devices whose parts device `c`'s sum holds after `k` steps. -/
def held : ℕ → Dev nD → Finset (Dev nD)
  | 0, c => {c}
  | k + 1, c => if hk : k < 4 then held k c ∪ held k (peer ⟨k, hk⟩ c) else held k c

theorem held_succ (k : Fin 4) (c : Dev nD) : held (k.val + 1) c = held k.val c ∪ held k.val (peer k c) := by
  rw [held]; exact dif_pos k.isLt
theorem held_disjoint : ∀ (k : Fin 4) (c : Dev nD), Disjoint (held k.val c) (held k.val (peer k c)) := by decide +kernel
theorem held_all : ∀ c : Dev nD, held 4 c = Finset.univ := by decide +kernel

variable (m : (ℓ : Loc nD τ sig) → Buf (Elt Ideal) ℓ)

theorem sumB_held (h : Fin 8) (j : S32x256.Idx) : ∀ (k : ℕ), k ≤ 4 → ∀ c : Dev nD,
    sumB m k c h j = ∑ d ∈ held k c, (partV d (insAt m d) h j : EReal)
  | 0, _, c => (Finset.sum_singleton _ _).symm
  | k + 1, hk, c => by
    have e := sumB_succ m ⟨k, hk⟩ c h
    rw [show sumB m (k + 1) c h = _ from e, mergeV_pack, held_succ ⟨k, hk⟩ c,
      Finset.sum_union (held_disjoint ⟨k, hk⟩ c), ← sumB_held h j k (by omega) c, ← sumB_held h j k (by omega) (peer ⟨k, hk⟩ c)]

/-- After the four steps every device holds the sum of all parts. -/
theorem sumB_all (h : Fin 8) (j : S32x256.Idx) (c : Dev nD) :
    sumB m 4 c h j = ∑ d : Dev nD, (partV d (insAt m d) h j : EReal) := by
  rw [sumB_held m h j 4 le_rfl c, held_all]

/-- The numbers of a device's two experts. -/
theorem expert0 : ∀ d : Dev nD, Scalar.muli (word d) 2#32 = BitVec.ofNat 32 (2 * d.val) := by decide +kernel
theorem expert1 : ∀ d : Dev nD, Scalar.addi (Scalar.muli (word d) 2#32) 1#32 = BitVec.ofNat 32 (2 * d.val + 1) := by
  decide +kernel

/-- Sixteen pairs are thirty-two. -/
theorem sum_pairs (g : Fin 32 → EReal) :
    ∑ d : Fin 16, (g ⟨2 * d.val, by omega⟩ + g ⟨2 * d.val + 1, by omega⟩) = ∑ e : Fin 32, g e := by
  have h : ∑ p : Fin 16 × Fin 2, g (finProdFinEquiv p) = ∑ e : Fin 32, g e := Equiv.sum_comp (finProdFinEquiv (m := 16) (n := 2)) g
  rw [← h, Fintype.sum_prod_type]
  refine Finset.sum_congr rfl fun d _ => ?_
  rw [Fin.sum_univ_two]
  refine congrArg₂ (· + ·) (congrArg g (Fin.ext ?_)) (congrArg g (Fin.ext ?_))
  · show 2 * d.val = 0 + 2 * d.val; omega
  · show 2 * d.val + 1 = 1 + 2 * d.val; omega

/-- Of a sum in which only the expert numbered `w` counts, that expert's term is left, if there is one. -/
theorem sum_pick (w : BitVec 32) (g : Fin 32 → EReal) :
    (∑ e : Fin 32, if w = BitVec.ofNat 32 e.val then g e else 0) = if h : w.toNat < 32 then g ⟨w.toNat, h⟩ else 0 := by
  have key : ∀ e : Fin 32, w = BitVec.ofNat 32 e.val ↔ w.toNat = e.val := fun e => by
    have := e.isLt
    constructor
    · intro h; rw [h, BitVec.toNat_ofNat]; omega
    · intro h; rw [← h, BitVec.ofNat_toNat, BitVec.setWidth_eq]
  by_cases h : w.toNat < 32
  · rw [dif_pos h, Finset.sum_eq_single ⟨w.toNat, h⟩]
    · exact if_pos ((key _).mpr rfl)
    · intro e _ hne
      exact if_neg fun he => hne (Fin.ext ((key e).mp he).symm)
    · intro hn; exact absurd (Finset.mem_univ _) hn
  · rw [dif_neg h]
    exact Finset.sum_eq_zero fun e _ => if_neg fun he => h (by rw [(key e).mp he]; exact e.isLt)

/-- The experts' contributions weighted by the token's probability of its expert. -/
theorem routed_eq (w : BitVec 32) (p y : Fin 32 → EReal) :
    (∑ d : Fin 16,
      ((if w = BitVec.ofNat 32 (2 * d.val) then ∑ e : Fin 32, if w = BitVec.ofNat 32 e.val then p e else 0 else 0) * y ⟨2 * d.val, by omega⟩
      + (if w = BitVec.ofNat 32 (2 * d.val + 1) then ∑ e : Fin 32, if w = BitVec.ofNat 32 e.val then p e else 0 else 0)
        * y ⟨2 * d.val + 1, by omega⟩))
    = if h : w.toNat < 32 then p ⟨w.toNat, h⟩ * y ⟨w.toNat, h⟩ else 0 := by
  rw [sum_pick]
  refine (sum_pairs fun e : Fin 32 => (if w = BitVec.ofNat 32 e.val then
    (if h : w.toNat < 32 then p ⟨w.toNat, h⟩ else 0) else 0) * y e).trans ?_
  simp only [ite_mul, zero_mul]
  rw [sum_pick]
  by_cases h : w.toNat < 32
  · simp only [dif_pos h]
  · simp only [dif_neg h]

end Cert.KernelIdeal.Moe

end
-- ==== Proof.RefValue.lean ====
/-
# What the reference computes, element by element

The reference's composed term, named piece by piece, and each piece read at an index over the extended reals.
-/
module

public import proofs.«01_k».proof.Proof.Gen.ReferenceIdeal
public import proofs.«01_k».proof.Proof.Gen.ReferenceIdeal.Run
public import Idealize.ShloMosaic.Lib.Pointwise
public import Idealize.ShloMosaic.Lib.KernelVsHost
public import Idealize.ShloMosaic.Lib.ValueIdxCore
public import Idealize.ShloMosaic.Lib.WordCmp

@[expose] public section

set_option maxRecDepth 16384

noncomputable section

namespace Cert.ReferenceIdeal.Moe

open Cert.ReferenceIdeal Cert.ReferenceIdeal.Gen
open Idealize.ShloMosaic
open Idealize.ShloMosaic.TcCoe

/-- The token's expert numbers, as a vector. -/
def expertV (ix : IVec S256x1 32) : IVec S256 32 := shapeCast S256 ix shapeCasts_S256x1_S256
/-- The same as a column. -/
def expertC (ix : IVec S256x1 32) : IVec S256x1 32 := broadcastInDim S256x1 ![0] bcast_S256_S256x1_0 (expertV ix)
/-- The pair of the token's number and its expert's. -/
def pairV (ix : IVec S256x1 32) : IVec S256x2 32 :=
  concatenate S256x2 1 [⟨S256x1, (broadcastInDim S256x1 ![0] bcast_S256_S256x1_0 (iotaInDim S256 32 0))⟩, ⟨S256x1, expertC ix⟩]
    concatenates_S256x1_S256x1_S256x2_d1
/-- The router's softmax. -/
def probsR (x : FVec Ideal S256x128 .f32) (rw : FVec Ideal S128x32 .f32) : FVec Ideal S256x32 .f32 :=
  have sc : FVec Ideal S256x32 .f32 := Host.dotGeneral dot_S256x128_S128x32_S256x32_1_0_0_1_n_n none x rw
  have ex : FVec Ideal S256x32 .f32 := Host.exp (subf sc (broadcastInDim S256x32 ![0, 1] bcast_S256x1_S256x32_0_1
    (broadcastInDim S256x1 ![0] bcast_S256_S256x1_0
      (Host.reduce FloatOps.maximumf sc (constant S_ .f32 0xFF800000#32) reducesTo_S256x32_S256_d1 h_S_))))
  Host.divf ex (broadcastInDim S256x32 ![0, 1] bcast_S256x1_S256x32_0_1
    (broadcastInDim S256x1 ![0] bcast_S256_S256x1_0
      (Host.reduceAdd ex (constant S_ .f32 0x00000000#32) reducesTo_S256x32_S256_d1 h_S_)))
/-- Whether both numbers of the pair are in range. -/
def pairOk (ix : IVec S256x1 32) : IVec S256 1 :=
  Host.reduce IntOp.andi (andi (cmpi .sge (pairV ix) (broadcastInDim S256x2 ![] bcast_S_S256x2 (constantI S_ 32 0#32)))
    (cmpi .sle (pairV ix) (broadcastInDim S256x2 ![0, 1] bcast_S1x2_S256x2_0_1
      (broadcastInDim S1x2 ![1] bcast_S2_S1x2_1 ((fun i => lit0 (S2.rowMajor i)))))))
    (constantI S_ 1 1#1) reducesTo_S256x2_S256_d1 h_S_
/-- Whether the expert's number is in range. -/
def expertOk (ix : IVec S256x1 32) : IVec S256 1 :=
  Host.reduce IntOp.andi (andi (cmpi .sge (expertC ix) (broadcastInDim S256x1 ![] bcast_S_S256x1 (constantI S_ 32 0#32)))
    (cmpi .sle (expertC ix) (broadcastInDim S256x1 ![0, 1] bcast_S1x1_S256x1_0_1
      (broadcastInDim S1x1 ![1] bcast_S1_S1x1_1 (constantI S1 32 31#32)))))
    (constantI S_ 1 1#1) reducesTo_S256x1_S256_d1 h_S_
/-- Each token's probability of its expert. -/
def pickP (pr : FVec Ideal S256x32 .f32) (ix : IVec S256x1 32) : FVec Ideal S256 .f32 :=
  select (pairOk ix) (Host.gather gather_S256x32_S256x2_S256_n_01_n_n_01_1_11 pr (pairV ix))
    (broadcastInDim S256 ![] bcast_S_S256 (constant S_ .f32 0x00000000#32))
/-- Each token's expert's weights. -/
def pickW (w : FVec Ideal S32x128x256 .f32) (ix : IVec S256x1 32) : FVec Ideal S256x128x256 .f32 :=
  select (broadcastInDim S256x128x256 ![0] bcast_S256_S256x128x256_0 (expertOk ix))
    (Host.gather gather_S32x128x256_S256x1_S256x128x256_12_0_n_n_0_1_1128256 w (expertC ix))
    (broadcastInDim S256x128x256 ![] bcast_S_S256x128x256 (constant S_ .f32 0x00000000#32))
/-- The reference. -/
def refOut (x : FVec Ideal S256x128 .f32) (rw : FVec Ideal S128x32 .f32) (ix : IVec S256x1 32)
    (w : FVec Ideal S32x128x256 .f32) (u : FVec Ideal S128x256 .f32) : FVec Ideal S256x256 .f32 :=
  addf (Host.dotGeneral dot_S256x128_S128x256_S256x256_1_0_0_1_n_n none x u)
    (mulf (broadcastInDim S256x256 ![0, 1] bcast_S256x1_S256x256_0_1
        (broadcastInDim S256x1 ![0] bcast_S256_S256x1_0 (pickP (probsR x rw) ix)))
      (Host.dotGeneral dot_S256x128_S256x128x256_S256x256_1_1_n_2_0_0 none x (pickW w ix)))

theorem res_eq (m : (ℓ : Loc nD τ sig) → Buf (Elt Ideal) ℓ) (c : Dev nD) :
    Value.res_main_v46 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v46
  rfl

/-- The number is in range. -/
def inRange (e : BitVec 32) : Prop := e.toNat < 32

theorem expertC_apply (ix : IVec S256x1 32) (i : Fin 256) : expertC ix (ix2 i 0) = ix (ix2 i 0) := by
  pointwise [expertC, expertV]
theorem pairV_apply0 (ix : IVec S256x1 32) (i : Fin 256) : pairV ix (ix2 i 0) = BitVec.ofNat 32 i.val := by
  pointwise [pairV]
theorem pairV_apply1 (ix : IVec S256x1 32) (i : Fin 256) : pairV ix (ix2 i 1) = ix (ix2 i 0) := by
  pointwise [pairV, expertC, expertV]

theorem bit_iff (p : Prop) [Decidable p] : BitVec.ofBool (decide p) = 1#1 ↔ p := by
  by_cases h : p <;> simp [h]

/-- The reference's two comparisons say that a number lies between zero and `n`. -/
theorem range_test (e : BitVec 32) (n : ℕ) (hn : n < 2 ^ 31) :
    IntOp.andi (IntOp.cmpi .sge e 0#32) (IntOp.cmpi .sle e (BitVec.ofNat 32 n)) = 1#1 ↔ e.toNat ≤ n := by
  rw [IntOp.andi_eq_one, WordCmp.cmpi_sge_zero, WordCmp.cmpi_sle_eq, bit_iff, bit_iff]
  have hN : (BitVec.ofNat 32 n).toInt = n := by
    rw [BitVec.toInt_eq_toNat_of_lt] <;> rw [BitVec.toNat_ofNat] <;> omega
  rw [hN]
  have hT := BitVec.toInt_eq_toNat_cond e
  have hL := e.isLt
  constructor
  · rintro ⟨h1, h2⟩
    split at hT <;> omega
  · intro h
    exact ⟨by omega, by split at hT <;> omega⟩

theorem pairOk_apply (ix : IVec S256x1 32) (i : Fin 256) : pairOk ix (ix1 i) = 1#1 ↔ inRange (ix (ix2 i 0)) := by
  pointwise [pairOk]
  rw [show (Finset.univ : Finset (Fin 2)) = {0, 1} from rfl, Finset.fold_insert (by decide), Finset.fold_singleton,
    pairV_apply0, pairV_apply1, IntOp.andi_eq_one, IntOp.andi_eq_one (c := IntOp.andi _ _)]
  have h0 : lit0 (S2.rowMajor (ix1 0)) = BitVec.ofNat 32 255 := by decide +kernel
  have h1 : lit0 (S2.rowMajor (ix1 1)) = BitVec.ofNat 32 31 := by decide +kernel
  rw [h0, h1, range_test _ _ (by decide), range_test _ _ (by decide), BitVec.toNat_ofNat, and_iff_left rfl]
  unfold inRange
  have := i.isLt
  omega
theorem expertOk_apply (ix : IVec S256x1 32) (i : Fin 256) : expertOk ix (ix1 i) = 1#1 ↔ inRange (ix (ix2 i 0)) := by
  pointwise [expertOk]
  rw [show (Finset.univ : Finset (Fin 1)) = {0} from rfl, Finset.fold_singleton, expertC_apply, IntOp.andi_eq_one,
    show (31#32 : BitVec 32) = BitVec.ofNat 32 31 from rfl, range_test _ _ (by decide), and_iff_left rfl]
  unfold inRange
  omega

/-- A number below the bound, read signed and clamped, is itself. -/
theorem clamp_eq (e : BitVec 32) (n : ℕ) (h : e.toNat ≤ n) (hn : n < 2 ^ 31) : min e.toInt.toNat n = e.toNat := by
  rw [BitVec.toInt_eq_toNat_of_lt (by omega)]
  omega

/-- The gathered probability: the token's own row, the column its expert's number names. -/
theorem gatherP_apply (pr : FVec Ideal S256x32 .f32) (ix : IVec S256x1 32) (i : Fin 256) (h : (ix (ix2 i 0)).toNat < 32) :
    Host.gather gather_S256x32_S256x2_S256_n_01_n_n_01_1_11 pr (pairV ix) (ix1 i) = pr (ix2 i ⟨(ix (ix2 i 0)).toNat, h⟩) := by
  unfold Host.gather
  congr 1
  funext a
  refine Fin.ext ?_
  let D := gather_S256x32_S256x2_S256_n_01_n_n_01_1_11
  match a with
  | ⟨0, _⟩ =>
    show D.start (ix1 i) (pairV ix) 0 + D.batchCoord (ix1 i) 0 + D.offCoord (ix1 i) 0 = i.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ D.startIndexMap by decide)]
    have hsi : D.siIdx (ix1 i) ⟨List.idxOf (0 : Fin 2) D.startIndexMap,
        List.idxOf_lt_length_iff.2 (by decide)⟩ = ix2 i 0 := by
      funext b; refine Fin.ext ?_
      match b with
      | ⟨0, _⟩ => rfl
      | ⟨1, _⟩ => rfl
    rw [hsi, pairV_apply0]
    have hi : (BitVec.ofNat 32 i.val).toNat = i.val := by
      rw [BitVec.toNat_ofNat]; have := i.isLt; omega
    exact (clamp_eq _ 255 (by rw [hi]; have := i.isLt; omega) (by decide)).trans hi
  | ⟨1, _⟩ =>
    show D.start (ix1 i) (pairV ix) 1 + D.batchCoord (ix1 i) 1 + D.offCoord (ix1 i) 1 = (ix (ix2 i 0)).toNat
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ D.startIndexMap by decide)]
    have hsi : D.siIdx (ix1 i) ⟨List.idxOf (1 : Fin 2) D.startIndexMap,
        List.idxOf_lt_length_iff.2 (by decide)⟩ = ix2 i 1 := by
      funext b; refine Fin.ext ?_
      match b with
      | ⟨0, _⟩ => rfl
      | ⟨1, _⟩ => rfl
    rw [hsi, pairV_apply1]
    exact clamp_eq _ 31 (by omega) (by decide)

/-- The gathered weights: the block the expert's number names. -/
theorem gatherW_apply (w : FVec Ideal S32x128x256 .f32) (ix : IVec S256x1 32) (i : Fin 256) (d : Fin 128) (f : Fin 256)
    (h : (ix (ix2 i 0)).toNat < 32) :
    Host.gather gather_S32x128x256_S256x1_S256x128x256_12_0_n_n_0_1_1128256 w (expertC ix) (ix3 i d f)
      = w (ix3 ⟨(ix (ix2 i 0)).toNat, h⟩ d f) := by
  unfold Host.gather
  congr 1
  funext a
  refine Fin.ext ?_
  let D := gather_S32x128x256_S256x1_S256x128x256_12_0_n_n_0_1_1128256
  match a with
  | ⟨0, _⟩ =>
    show D.start (ix3 i d f) (expertC ix) 0 + D.batchCoord (ix3 i d f) 0 + D.offCoord (ix3 i d f) 0 = (ix (ix2 i 0)).toNat
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ D.startIndexMap by decide)]
    have hsi : D.siIdx (ix3 i d f) ⟨List.idxOf (0 : Fin 3) D.startIndexMap,
        List.idxOf_lt_length_iff.2 (by decide)⟩ = ix2 i 0 := by
      funext b; refine Fin.ext ?_
      match b with
      | ⟨0, _⟩ => rfl
      | ⟨1, _⟩ => rfl
    rw [hsi, expertC_apply]
    exact clamp_eq _ 31 (by omega) (by decide)
  | ⟨1, _⟩ =>
    show D.start (ix3 i d f) (expertC ix) 1 + D.batchCoord (ix3 i d f) 1 + D.offCoord (ix3 i d f) 1 = d.val
    rw [GatherDims.batchCoord_eq_zero _ _ _ List.not_mem_nil]
    unfold GatherDims.start
    rw [dif_neg (show (1 : Fin 3) ∉ D.startIndexMap by decide)]
    unfold GatherDims.offCoord
    rw [dif_pos (show (1 : Fin 3) ∈ D.sKept by decide)]
    simp only [Nat.zero_add]
    rfl
  | ⟨2, _⟩ =>
    show D.start (ix3 i d f) (expertC ix) 2 + D.batchCoord (ix3 i d f) 2 + D.offCoord (ix3 i d f) 2 = f.val
    rw [GatherDims.batchCoord_eq_zero _ _ _ List.not_mem_nil]
    unfold GatherDims.start
    rw [dif_neg (show (2 : Fin 3) ∉ D.startIndexMap by decide)]
    unfold GatherDims.offCoord
    rw [dif_pos (show (2 : Fin 3) ∈ D.sKept by decide)]
    simp only [Nat.zero_add]
    rfl

/-- A token's probability of its expert: zero if there is no such expert. -/
theorem pickP_apply (pr : FVec Ideal S256x32 .f32) (ix : IVec S256x1 32) (i : Fin 256) :
    pickP pr ix (ix1 i) = if h : (ix (ix2 i 0)).toNat < 32 then pr (ix2 i ⟨(ix (ix2 i 0)).toNat, h⟩) else (0 : EReal) := by
  unfold pickP
  show Scalar.select (pairOk ix (ix1 i)) (Host.gather _ pr (pairV ix) (ix1 i)) _ = _
  by_cases h : (ix (ix2 i 0)).toNat < 32
  · rw [dif_pos h, Scalar.select_of_eq_one ((pairOk_apply ix i).mpr h), gatherP_apply pr ix i h]
  · rw [dif_neg h, Scalar.select_of_ne_one (fun e => h ((pairOk_apply ix i).mp e))]
    pointwise

/-- A token's expert's weights: zero if there is no such expert. -/
theorem pickW_apply (w : FVec Ideal S32x128x256 .f32) (ix : IVec S256x1 32) (i : Fin 256) (d : Fin 128) (f : Fin 256) :
    pickW w ix (ix3 i d f) = if h : (ix (ix2 i 0)).toNat < 32 then w (ix3 ⟨(ix (ix2 i 0)).toNat, h⟩ d f) else (0 : EReal) := by
  have hm : broadcastInDim S256x128x256 ![0] bcast_S256_S256x128x256_0 (expertOk ix) (ix3 i d f) = expertOk ix (ix1 i) := by
    pointwise
  unfold pickW
  show Scalar.select (broadcastInDim S256x128x256 ![0] bcast_S256_S256x128x256_0 (expertOk ix) (ix3 i d f))
    (Host.gather _ w (expertC ix) (ix3 i d f)) _ = _
  rw [hm]
  by_cases h : (ix (ix2 i 0)).toNat < 32
  · rw [dif_pos h, Scalar.select_of_eq_one ((expertOk_apply ix i).mpr h), gatherW_apply w ix i d f h]
  · rw [dif_neg h, Scalar.select_of_ne_one (fun e => h ((expertOk_apply ix i).mp e))]
    pointwise

theorem refOut_apply (x : FVec Ideal S256x128 .f32) (rw : FVec Ideal S128x32 .f32) (ix : IVec S256x1 32)
    (w : FVec Ideal S32x128x256 .f32) (u : FVec Ideal S128x256 .f32) (i f : Fin 256) :
    refOut x rw ix w u (ix2 i f) = (∑ d : Fin 128, x (ix2 i d) * u (ix2 d f))
      + pickP (probsR x rw) ix (ix1 i) * ∑ d : Fin 128, x (ix2 i d) * pickW w ix (ix3 i d f) := by
  pointwise [refOut]

end Cert.ReferenceIdeal.Moe

end
-- ==== Proof.Equation.lean ====
/-
# The equation

What a device's result array holds, element by element, and that it is the reference's value.
-/
module

public import proofs.«01_k».proof.Proof.Arrays
public import proofs.«01_k».proof.Proof.Sum
public import proofs.«01_k».proof.Proof.RefValue
public import proofs.«01_k».proof.Proof.Frames
public import proofs.«01_k».proof.Defs

@[expose] public section

set_option maxRecDepth 16384

noncomputable section

namespace Cert.KernelIdeal.Moe

open Cert.KernelIdeal Cert.KernelIdeal.Gen
open Idealize.ShloMosaic
open Idealize.ShloMosaic.TcCoe

/-- The two softmaxes are one. -/
theorem probs_eq (x : FVec Ideal S256x128 .f32) (r : FVec Ideal S128x32 .f32) :
    probsV (F := Ideal) x r = Cert.ReferenceIdeal.Moe.probsR x r := by
  funext j
  pointwise [probsV, Cert.ReferenceIdeal.Moe.probsR]

/-- One expert's rows of a product: token `i`, feature `f`, of `x` times expert `e`'s weights. -/
def prod (x : FVec Ideal S256x128 .bf16) (w : (⟨3, ![32, 128, 256]⟩ : Shape).Idx → EReal) (i f : Fin 256) (e : Fin 32) : EReal :=
  ∑ d : Fin 128, (x (ix2 i d) : EReal) * w (ix3 e d f)

section Same

variable (m : (ℓ : Loc nD τ sig) → Buf (Elt Ideal) ℓ)
  (x : FVec Ideal S256x128 .bf16) (r : FVec Ideal S128x32 .bf16) (ix : IVec S256x1 32)
  (w : (⟨3, ![32, 128, 256]⟩ : Shape).Idx → EReal) (u : FVec Ideal S128x256 .bf16)
  (h0 : ∀ c : Dev nD, m ((c : Thread nD τ).loc main_arg0) = x) (h1 : ∀ c : Dev nD, m ((c : Thread nD τ).loc main_arg1) = r)
  (h2 : ∀ c : Dev nD, m ((c : Thread nD τ).loc main_arg2) = ix)
  (h3 : ∀ c : Dev nD, m ((c : Thread nD τ).loc main_arg3) = Layout.block ⟨3, ![2, 128, 256]⟩ ⟨3, ![32, 128, 256]⟩ 0 16 c w)
  (h4 : ∀ c : Dev nD, m ((c : Thread nD τ).loc main_arg4) = u)

include h3 in
/-- The device's first expert is number `2 c` of the whole array. -/
theorem w0_whole (c : Dev nD) (d : Fin 128) (f : Fin 256) :
    ((insAt m c).w0 (ix3 0 d f) : EReal) = w (ix3 ⟨2 * c.val, by have : c.val < 16 := c.isLt; omega⟩ d f) := by
  rw [w0_apply, h3 c]
  refine congrArg w (funext fun a => Fin.ext ?_)
  match a with
  | ⟨0, _⟩ => show c.val * 2 + 0 = 2 * c.val; omega
  | ⟨1, _⟩ => rfl
  | ⟨2, _⟩ => rfl

include h3 in
/-- And the second number `2 c + 1`. -/
theorem w1_whole (c : Dev nD) (d : Fin 128) (f : Fin 256) :
    ((insAt m c).w1 (ix3 0 d f) : EReal) = w (ix3 ⟨2 * c.val + 1, by have : c.val < 16 := c.isLt; omega⟩ d f) := by
  rw [w1_apply, h3 c]
  refine congrArg w (funext fun a => Fin.ext ?_)
  match a with
  | ⟨0, _⟩ => show c.val * 2 + 1 = 2 * c.val + 1; omega
  | ⟨1, _⟩ => rfl
  | ⟨2, _⟩ => rfl

include h0 h1 h2 h3 in
/-- A device's part, at a token and a feature. -/
theorem part_apply (c : Dev nD) (h : Fin 8) (k : Fin 32) (f : Fin 256) :
    (partV c (insAt m c) h (ix2 k f) : EReal)
      = (if ix (ix2 (row h k) 0) = BitVec.ofNat 32 (2 * c.val) then
            ∑ e : Fin 32, if ix (ix2 (row h k) 0) = BitVec.ofNat 32 e.val then (probsV (F := Ideal) x r (ix2 (row h k) e) : EReal) else 0 else 0)
          * prod x w (row h k) f ⟨2 * c.val, by have : c.val < 16 := c.isLt; omega⟩
        + (if ix (ix2 (row h k) 0) = BitVec.ofNat 32 (2 * c.val + 1) then
            ∑ e : Fin 32, if ix (ix2 (row h k) 0) = BitVec.ofNat 32 e.val then (probsV (F := Ideal) x r (ix2 (row h k) e) : EReal) else 0 else 0)
          * prod x w (row h k) f ⟨2 * c.val + 1, by have : c.val < 16 := c.isLt; omega⟩ := by
  show (contribV (F := Ideal) _ _ _ h (ix2 k f) : EReal) + contribV (F := Ideal) _ _ _ h (ix2 k f) = _
  rw [contribV_apply, contribV_apply, coefV_apply, coefV_apply, tokV_apply, expert1, expert0, xb_eq, rw_eq, ix_eq,
    h0 c, h1 c, h2 c]
  simp only [w0_whole m w h3 c, w1_whole m w h3 c]
  rfl

/-- Row block and row in the block, put together. -/
theorem row_of (i f : Fin 256) : ∃ k : Fin 32, inRow (ix2 i f) = ix2 k f ∧ row (rowOf (ix2 i f)) k = i := by
  refine ⟨⟨i.val % 32, Nat.mod_lt _ (by decide)⟩, funext fun a => ?_, Fin.ext ?_⟩
  · match a with
    | ⟨0, _⟩ => rfl
    | ⟨1, _⟩ => rfl
  · show 32 * (i.val / 32) + i.val % 32 = i.val
    omega

include h0 h1 h2 h3 in
/-- The finished sum: the token's probability of its expert times the expert's product, zero if there is no such
    expert. -/
theorem sum_apply (c : Dev nD) (i f : Fin 256) :
    (sumW (fun h => sumB m 4 c h) (ix2 i f) : EReal)
      = if hE : (ix (ix2 i 0)).toNat < 32 then
          (probsV (F := Ideal) x r (ix2 i ⟨(ix (ix2 i 0)).toNat, hE⟩) : EReal) * prod x w i f ⟨(ix (ix2 i 0)).toNat, hE⟩ else 0 := by
  obtain ⟨k, hk, hr⟩ := row_of i f
  show (sumB m 4 c (rowOf (ix2 i f)) (inRow (ix2 i f)) : EReal) = _
  rw [sumB_all, hk]
  simp only [part_apply m x r ix w h0 h1 h2 h3, hr]
  exact routed_eq (ix (ix2 i 0)) (fun e => probsV (F := Ideal) x r (ix2 i e)) (prod x w i f)

include h0 h1 h2 h3 h4 in
/-- **Every device's result is the reference's.** -/
theorem out_eq (c : Dev nD) : outAt m c = Cert.ReferenceIdeal.Moe.refOut x r ix w u := by
  funext j
  obtain ⟨i, f, rfl⟩ : ∃ i f : Fin 256, j = ix2 i f := ⟨j 0, j 1, by
    funext a
    match a with
    | ⟨0, _⟩ => rfl
    | ⟨1, _⟩ => rfl⟩
  rw [Cert.ReferenceIdeal.Moe.refOut_apply, Cert.ReferenceIdeal.Moe.pickP_apply]
  simp only [Cert.ReferenceIdeal.Moe.pickW_apply]
  have hs := sharedV_apply x u i f
  have hr := sum_apply m x r ix w h0 h1 h2 h3 c i f
  have ho : (outAt m c (ix2 i f) : EReal) = sharedV x u (ix2 i f) + sumW (fun h => sumB m 4 c h) (ix2 i f) := by
    unfold outAt outV
    rw [shapeCast_id, xb_eq, h0 c, u_eq, h4 c]
    rfl
  refine ho.trans (congrArg₂ (· + ·) hs (hr.trans ?_))
  by_cases hE : (ix (ix2 i 0)).toNat < 32
  · simp only [dif_pos hE]
    rw [probs_eq]
    rfl
  · simp only [dif_neg hE, zero_mul]

end Same

end Cert.KernelIdeal.Moe

namespace Cert.Proof

open Idealize.ShloMosaic Idealize.SL.Sem

/-- The value claim: on every device the kernel's result is the reference's, over the extended reals. -/
theorem algebraic : Cert.algebraic_KernelIdeal_ReferenceIdeal
    (hKernelIdeal := Cert.KernelIdeal.Gen.facts) (hReferenceIdeal := Cert.ReferenceIdeal.Gen.facts) := fun m g m' g' _ hin => by
  refine ⟨Cert.ReferenceIdeal.Value.res_main_v46 m' 0, ?_, ?_⟩
  · refine (θ_run Cert.KernelIdeal.defs _ _).mono (fun r h c => ⟨?_, Cert.KernelIdeal.Moe.args_kept m g r h.1 c⟩)
      (Cert.KernelIdeal.Moe.run_main (F := Ideal) m g)
    refine (h.1 c 5).trans ((Cert.KernelIdeal.Moe.finalA_out m g c).trans ?_)
    rw [Cert.ReferenceIdeal.Moe.res_eq]
    exact Cert.KernelIdeal.Moe.out_eq m _ _ _ _ _ (fun c => (hin c).1) (fun c => (hin c).2.1) (fun c => (hin c).2.2.1)
      (fun c => (hin c).2.2.2.1) (fun c => (hin c).2.2.2.2) c
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_reference, trivial, algebraic⟩

end Cert.Proof

end
